-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite2 [hPre_finite2 : Cert.Pre_finite2.Facts] (m : (ℓ : Loc Cert.FfnIdeal.nD Cert.FfnIdeal.τ Cert.FfnIdeal.sig) → Buf (Elt Ideal) ℓ) : Prop :=
  ∀ c : Dev Cert.FfnIdeal.nD,
    (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite2 [hPre_finite2 : Cert.Pre_finite2.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite2.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_finite3 [hPre_finite3 : Cert.Pre_finite3.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_finite3.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7))) = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_finite3 [hPre_finite3 : Cert.Pre_finite3.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_finite3.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite4 [hPre_finite4 : Cert.Pre_finite4.Facts] (m : (ℓ : Loc Cert.InProjIdeal.nD Cert.InProjIdeal.τ Cert.InProjIdeal.sig) → Buf (Elt Ideal) ℓ) : Prop :=
  ∀ c : Dev Cert.InProjIdeal.nD,
    (Cert.Pre_finite4.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite4 [hPre_finite4 : Cert.Pre_finite4.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite4.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite2 [hFfnIdeal : Cert.FfnIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite2 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite2 [hFfnRefIdeal : Cert.FfnRefIdeal.Facts] [hPre_finite2 : Cert.Pre_finite2.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite2 m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6)
      ∧ r.2.mem ((c.tc : Thread Cert.FfnA.nD Cert.FfnA.τ).loc Cert.FfnA.main_arg7) = m ((c.tc : Thread Cert.FfnA.nD Cert.FfnA.τ).loc Cert.FfnA.main_arg7))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7))
      ∧ r.2.sem = fun _ => 0)

def quiescent_FfnAIdeal_pre_finite3 [hFfnAIdeal : Cert.FfnAIdeal.Facts] [hPre_finite3 : Cert.Pre_finite3.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_finite3 m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7))
      ∧ r.2.sem = fun _ => 0)

def quiescent_FfnARefIdeal_pre_finite3 [hFfnARefIdeal : Cert.FfnARefIdeal.Facts] [hPre_finite3 : Cert.Pre_finite3.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_finite3 m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite4 [hInProjIdeal : Cert.InProjIdeal.Facts] [hPre_finite4 : Cert.Pre_finite4.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite4 m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite4 [hInProjRefIdeal : Cert.InProjRefIdeal.Facts] [hPre_finite4 : Cert.Pre_finite4.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite4 m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Ffn_FfnIdeal : Prop :=
  True

def algebraic_FfnIdeal_FfnRefIdeal_pre_finite2 [hFfnIdeal : Cert.FfnIdeal.Facts] [hFfnRefIdeal : Cert.FfnRefIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite2 m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_FfnA_FfnAIdeal : Prop :=
  True

def algebraic_FfnAIdeal_FfnARefIdeal_pre_finite3 [hFfnAIdeal : Cert.FfnAIdeal.Facts] [hFfnARefIdeal : Cert.FfnARefIdeal.Facts] [hPre_finite3 : Cert.Pre_finite3.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_finite3 m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)
      ∧ m' ((c.tc : Thread Cert.FfnARefIdeal.nD Cert.FfnARefIdeal.τ).loc Cert.FfnARefIdeal.main_arg7) = m ((c.tc : Thread Cert.FfnAIdeal.nD Cert.FfnAIdeal.τ).loc Cert.FfnAIdeal.main_arg7)) →
    ∃ (v0 : (c : Dev Cert.FfnAIdeal.nD) → Buf (Elt Ideal) ((c.tc : Thread Cert.FfnAIdeal.nD Cert.FfnAIdeal.τ).loc Cert.FfnAIdeal.main_v12)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v12) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
          ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v60) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6)
          ∧ r.2.mem ((c.tc : Thread Cert.FfnARefIdeal.nD Cert.FfnARefIdeal.τ).loc Cert.FfnARefIdeal.main_arg7) = m' ((c.tc : Thread Cert.FfnARefIdeal.nD Cert.FfnARefIdeal.τ).loc Cert.FfnARefIdeal.main_arg7))

def preserves_InProj_InProjIdeal : Prop :=
  True

def algebraic_InProjIdeal_InProjRefIdeal_pre_finite4 [hInProjIdeal : Cert.InProjIdeal.Facts] [hInProjRefIdeal : Cert.InProjRefIdeal.Facts] [hPre_finite4 : Cert.Pre_finite4.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite4 m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)) (v3 : (c : Dev Cert.InProjIdeal.nD) → Buf (Elt Ideal) ((c.tc : Thread Cert.InProjIdeal.nD Cert.InProjIdeal.τ).loc Cert.InProjIdeal.main_v11_3)) (v4 : (c : Dev Cert.InProjIdeal.nD) → Buf (Elt Ideal) ((c.tc : Thread Cert.InProjIdeal.nD Cert.InProjIdeal.τ).loc Cert.InProjIdeal.main_v11_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_v11_3) = v3 c
          ∧ r.2.mem ((c.tc : Thread Cert.InProjIdeal.nD Cert.InProjIdeal.τ).loc Cert.InProjIdeal.main_v11_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v62) = v0 c
          ∧ r.2.mem ((c.tc : Thread Cert.InProjRefIdeal.nD Cert.InProjRefIdeal.τ).loc Cert.InProjRefIdeal.main_v66) = v1 c
          ∧ r.2.mem ((c.tc : Thread Cert.InProjRefIdeal.nD Cert.InProjRefIdeal.τ).loc Cert.InProjRefIdeal.main_v71) = v2 c
          ∧ r.2.mem ((c.tc : Thread Cert.InProjRefIdeal.nD Cert.InProjRefIdeal.τ).loc Cert.InProjRefIdeal.main_v76) = v3 c
          ∧ r.2.mem ((c.tc : Thread Cert.InProjRefIdeal.nD Cert.InProjRefIdeal.τ).loc Cert.InProjRefIdeal.main_v80) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Qkv_QkvIdeal : Prop :=
  IdealRules.named_const.Statement Cert.QkvIdeal.κ "scale" .f32 0x3E38AA3B#32 (((Real.log 256)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v15_0)) (v1 : (c : Dev Cert.QkvIdeal.nD) → Buf (Elt Ideal) ((c.tc : Thread Cert.QkvIdeal.nD Cert.QkvIdeal.τ).loc Cert.QkvIdeal.main_v15_1)) (v2 : (c : Dev Cert.QkvIdeal.nD) → Buf (Elt Ideal) ((c.tc : Thread Cert.QkvIdeal.nD Cert.QkvIdeal.τ).loc Cert.QkvIdeal.main_v15_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v15_0) = v0 c
          ∧ r.2.mem ((c.tc : Thread Cert.QkvIdeal.nD Cert.QkvIdeal.τ).loc Cert.QkvIdeal.main_v15_1) = v1 c
          ∧ r.2.mem ((c.tc : Thread Cert.QkvIdeal.nD Cert.QkvIdeal.τ).loc Cert.QkvIdeal.main_v15_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v79) = v0 c
          ∧ r.2.mem ((c.tc : Thread Cert.QkvRefIdeal.nD Cert.QkvRefIdeal.τ).loc Cert.QkvRefIdeal.main_v82) = v1 c
          ∧ r.2.mem ((c.tc : Thread Cert.QkvRefIdeal.nD Cert.QkvRefIdeal.τ).loc Cert.QkvRefIdeal.main_v84) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hFfn : Cert.Ffn.Facts) (hFfnIdeal : Cert.FfnIdeal.Facts) (hFfnRefIdeal : Cert.FfnRefIdeal.Facts) (hFfnA : Cert.FfnA.Facts) (hFfnAIdeal : Cert.FfnAIdeal.Facts) (hFfnARefIdeal : Cert.FfnARefIdeal.Facts) (hInProj : Cert.InProj.Facts) (hInProjIdeal : Cert.InProjIdeal.Facts) (hInProjRefIdeal : Cert.InProjRefIdeal.Facts) (hQkv : Cert.Qkv.Facts) (hQkvIdeal : Cert.QkvIdeal.Facts) (hQkvRefIdeal : Cert.QkvRefIdeal.Facts) (hPre_finite2 : Cert.Pre_finite2.Facts) (hPre_finite3 : Cert.Pre_finite3.Facts) (hPre_finite4 : Cert.Pre_finite4.Facts),
    quiescent_Ffn (hFfn := hFfn)
    ∧ quiescent_FfnIdeal (hFfnIdeal := hFfnIdeal)
    ∧ quiescent_FfnIdeal_pre_finite2 (hFfnIdeal := hFfnIdeal) (hPre_finite2 := hPre_finite2)
    ∧ quiescent_FfnRefIdeal (hFfnRefIdeal := hFfnRefIdeal)
    ∧ quiescent_FfnRefIdeal_pre_finite2 (hFfnRefIdeal := hFfnRefIdeal) (hPre_finite2 := hPre_finite2)
    ∧ quiescent_FfnA (hFfnA := hFfnA)
    ∧ quiescent_FfnAIdeal (hFfnAIdeal := hFfnAIdeal)
    ∧ quiescent_FfnAIdeal_pre_finite3 (hFfnAIdeal := hFfnAIdeal) (hPre_finite3 := hPre_finite3)
    ∧ quiescent_FfnARefIdeal (hFfnARefIdeal := hFfnARefIdeal)
    ∧ quiescent_FfnARefIdeal_pre_finite3 (hFfnARefIdeal := hFfnARefIdeal) (hPre_finite3 := hPre_finite3)
    ∧ quiescent_InProj (hInProj := hInProj)
    ∧ quiescent_InProjIdeal (hInProjIdeal := hInProjIdeal)
    ∧ quiescent_InProjIdeal_pre_finite4 (hInProjIdeal := hInProjIdeal) (hPre_finite4 := hPre_finite4)
    ∧ quiescent_InProjRefIdeal (hInProjRefIdeal := hInProjRefIdeal)
    ∧ quiescent_InProjRefIdeal_pre_finite4 (hInProjRefIdeal := hInProjRefIdeal) (hPre_finite4 := hPre_finite4)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal_pre_finite2 (hFfnIdeal := hFfnIdeal) (hFfnRefIdeal := hFfnRefIdeal) (hPre_finite2 := hPre_finite2)
    ∧ preserves_FfnA_FfnAIdeal
    ∧ algebraic_FfnAIdeal_FfnARefIdeal_pre_finite3 (hFfnAIdeal := hFfnAIdeal) (hFfnARefIdeal := hFfnARefIdeal) (hPre_finite3 := hPre_finite3)
    ∧ preserves_InProj_InProjIdeal
    ∧ algebraic_InProjIdeal_InProjRefIdeal_pre_finite4 (hInProjIdeal := hInProjIdeal) (hInProjRefIdeal := hInProjRefIdeal) (hPre_finite4 := hPre_finite4)
    ∧ preserves_Qkv_QkvIdeal
    ∧ algebraic_QkvIdeal_QkvRefIdeal (hQkvIdeal := hQkvIdeal) (hQkvRefIdeal := hQkvRefIdeal)
-- ==== Pre_finite2.lean ====
abbrev S32768x1024 : Shape := ⟨2, ![32768, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x5632 : S_.BroadcastsInDim S2x1024x5632 (![] : Fin 0 → Fin S2x1024x5632.rank)
  reducesTo_S2x1024x5632_S_d0_1_2 : S2x1024x5632.ReducesTo [0, 1, 2] S_
  bcast_S_S2x3x5632 : S_.BroadcastsInDim S2x3x5632 (![] : Fin 0 → Fin S2x3x5632.rank)
  reducesTo_S2x3x5632_S_d0_1_2 : S2x3x5632.ReducesTo [0, 1, 2] S_
  bcast_S_S2x5632 : S_.BroadcastsInDim S2x5632 (![] : Fin 0 → Fin S2x5632.rank)
  reducesTo_S2x5632_S_d0_1 : S2x5632.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S2x1024x5632 .f32) (main_arg5 : FVec F S2x3x5632 .f32) (main_arg6 : FVec F S2x5632 .f32) (main_v14 : IVec S_ 1) (main_v15 : FVec F S2x1024 .f32) (main_v16 : FVec F S2x1024 .f32) : IVec S_ 1 :=
  let main_v17 : IVec S2x1024 1 := cmpf .olt main_v15 main_v16
  let main_c_5 : IVec S_ 1 := constantI S_ 1 1#1
  let main_v18 : IVec S_ 1 := (fun x v => Host.reduce IntOp.andi x v reducesTo_S2x1024_S_d0_1 h_S_) main_v17 main_c_5
  let main_v19 : IVec S_ 1 := andi main_v14 main_v18
  let main_v20 : FVec F S2x1024x5632 .f32 := Host.absf main_arg4
  let main_cst_6 : FVec F S_ .f32 := constant S_ .f32 0x7F800000#32
  let main_v21 : FVec F S2x1024x5632 .f32 := broadcastInDim S2x1024x5632 ![] bcast_S_S2x1024x5632 main_cst_6
  let main_v22 : IVec S2x1024x5632 1 := cmpf .olt main_v20 main_v21
  let main_c_7 : IVec S_ 1 := constantI S_ 1 1#1
  let main_v23 : IVec S_ 1 := (fun x v => Host.reduce IntOp.andi x v reducesTo_S2x1024x5632_S_d0_1_2 h_S_) main_v22 main_c_7
  let main_v24 : IVec S_ 1 := andi main_v19 main_v23
  let main_v25 : FVec F S2x3x5632 .f32 := Host.absf main_arg5
  let main_cst_8 : FVec F S_ .f32 := constant S_ .f32 0x7F800000#32
  let main_v26 : FVec F S2x3x5632 .f32 := broadcastInDim S2x3x5632 ![] bcast_S_S2x3x5632 main_cst_8
  let main_v27 : IVec S2x3x5632 1 := cmpf .olt main_v25 main_v26
  let main_c_9 : IVec S_ 1 := constantI S_ 1 1#1
  let main_v28 : IVec S_ 1 := (fun x v => Host.reduce IntOp.andi x v reducesTo_S2x3x5632_S_d0_1_2 h_S_) main_v27 main_c_9
  let main_v29 : IVec S_ 1 := andi main_v24 main_v28
  let main_v30 : FVec F S2x5632 .f32 := Host.absf main_arg6
  let main_cst_10 : FVec F S_ .f32 := constant S_ .f32 0x7F800000#32
  let main_v31 : FVec F S2x5632 .f32 := broadcastInDim S2x5632 ![] bcast_S_S2x5632 main_cst_10
  let main_v32 : IVec S2x5632 1 := cmpf .olt main_v30 main_v31
  let main_c_11 : IVec S_ 1 := constantI S_ 1 1#1
  let main_v33 : IVec S_ 1 := (fun x v => Host.reduce IntOp.andi x v reducesTo_S2x5632_S_d0_1 h_S_) main_v32 main_c_11
  fn_part2 (F := F) main_v29 main_v33

def fn {F : FTy → Type} [FloatOps F] (main_arg0 : FVec F S32768x1024 .bf16) (main_arg1 : FVec F S1x1024x1024 .f32) (main_arg2 : FVec F S32768x1024 .f32) (main_arg3 : FVec F S2x1024 .f32) (main_arg4 : FVec F S2x1024x5632 .f32) (main_arg5 : FVec F S2x3x5632 .f32) (main_arg6 : FVec F S2x5632 .f32) (main_arg7 : FVec F S2x2816x1024 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S1x1024x1024 .f32 := Host.absf main_arg1
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_c_1 : IVec S_ 1 := constantI S_ 1 1#1
  let main_v8 : IVec S_ 1 := (fun x v => Host.reduce IntOp.andi x v reducesTo_S1x1024x1024_S_d0_1_2 h_S_) main_v7 main_c_1
  let main_v9 : IVec S_ 1 := andi main_v4 main_v8
  let main_v10 : FVec F S32768x1024 .f32 := Host.absf main_arg2
  let main_cst_2 : FVec F S_ .f32 := constant S_ .f32 0x7F800000#32
  let main_v11 : FVec F S32768x1024 .f32 := broadcastInDim S32768x1024 ![] bcast_S_S32768x1024 main_cst_2
  let main_v12 : IVec S32768x1024 1 := cmpf .olt main_v10 main_v11
  let main_c_3 : IVec S_ 1 := constantI S_ 1 1#1
  let main_v13 : IVec S_ 1 := (fun x v => Host.reduce IntOp.andi x v reducesTo_S32768x1024_S_d0_1 h_S_) main_v12 main_c_3
  let main_v14 : IVec S_ 1 := andi main_v9 main_v13
  let main_v15 : FVec F S2x1024 .f32 := Host.absf main_arg3
  let main_cst_4 : FVec F S_ .f32 := constant S_ .f32 0x7F800000#32
  let main_v16 : FVec F S2x1024 .f32 := broadcastInDim S2x1024 ![] bcast_S_S2x1024 main_cst_4
  fn_part1 (F := F) main_arg4 main_arg5 main_arg6 main_v14 main_v15 main_v16
-- ==== Pre_finite3.lean ====
abbrev S32768x2048 : Shape := ⟨2, ![32768, 2048]⟩
abbrev S1x2048x1024 : Shape := ⟨3, ![1, 2048, 1024]⟩
abbrev S32768x1024 : Shape := ⟨2, ![32768, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S32768x1024 : S_.BroadcastsInDim S32768x1024 (![] : Fin 0 → Fin S32768x1024.rank)
  reducesTo_S32768x1024_S_d0_1 : S32768x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S2x1024x5632 : S_.BroadcastsInDim S2x1024x5632 (![] : Fin 0 → Fin S2x1024x5632.rank)
  reducesTo_S2x1024x5632_S_d0_1_2 : S2x1024x5632.ReducesTo [0, 1, 2] S_
  bcast_S_S2x3x5632 : S_.BroadcastsInDim S2x3x5632 (![] : Fin 0 → Fin S2x3x5632.rank)
  reducesTo_S2x3x5632_S_d0_1_2 : S2x3x5632.ReducesTo [0, 1, 2] S_
  bcast_S_S2x5632 : S_.BroadcastsInDim S2x5632 (![] : Fin 0 → Fin S2x5632.rank)
  reducesTo_S2x5632_S_d0_1 : S2x5632.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S2x1024x5632 .f32) (main_arg5 : FVec F S2x3x5632 .f32) (main_arg6 : FVec F S2x5632 .f32) (main_v14 : IVec S_ 1) (main_v15 : FVec F S2x1024 .f32) (main_v16 : FVec F S2x1024 .f32) : IVec S_ 1 :=
  let main_v17 : IVec S2x1024 1 := cmpf .olt main_v15 main_v16
  let main_c_5 : IVec S_ 1 := constantI S_ 1 1#1
  let main_v18 : IVec S_ 1 := (fun x v => Host.reduce IntOp.andi x v reducesTo_S2x1024_S_d0_1 h_S_) main_v17 main_c_5
  let main_v19 : IVec S_ 1 := andi main_v14 main_v18
  let main_v20 : FVec F S2x1024x5632 .f32 := Host.absf main_arg4
  let main_cst_6 : FVec F S_ .f32 := constant S_ .f32 0x7F800000#32
  let main_v21 : FVec F S2x1024x5632 .f32 := broadcastInDim S2x1024x5632 ![] bcast_S_S2x1024x5632 main_cst_6
  let main_v22 : IVec S2x1024x5632 1 := cmpf .olt main_v20 main_v21
  let main_c_7 : IVec S_ 1 := constantI S_ 1 1#1
  let main_v23 : IVec S_ 1 := (fun x v => Host.reduce IntOp.andi x v reducesTo_S2x1024x5632_S_d0_1_2 h_S_) main_v22 main_c_7
  let main_v24 : IVec S_ 1 := andi main_v19 main_v23
  let main_v25 : FVec F S2x3x5632 .f32 := Host.absf main_arg5
  let main_cst_8 : FVec F S_ .f32 := constant S_ .f32 0x7F800000#32
  let main_v26 : FVec F S2x3x5632 .f32 := broadcastInDim S2x3x5632 ![] bcast_S_S2x3x5632 main_cst_8
  let main_v27 : IVec S2x3x5632 1 := cmpf .olt main_v25 main_v26
  let main_c_9 : IVec S_ 1 := constantI S_ 1 1#1
  let main_v28 : IVec S_ 1 := (fun x v => Host.reduce IntOp.andi x v reducesTo_S2x3x5632_S_d0_1_2 h_S_) main_v27 main_c_9
  let main_v29 : IVec S_ 1 := andi main_v24 main_v28
  let main_v30 : FVec F S2x5632 .f32 := Host.absf main_arg6
  let main_cst_10 : FVec F S_ .f32 := constant S_ .f32 0x7F800000#32
  let main_v31 : FVec F S2x5632 .f32 := broadcastInDim S2x5632 ![] bcast_S_S2x5632 main_cst_10
  let main_v32 : IVec S2x5632 1 := cmpf .olt main_v30 main_v31
  let main_c_11 : IVec S_ 1 := constantI S_ 1 1#1
  let main_v33 : IVec S_ 1 := (fun x v => Host.reduce IntOp.andi x v reducesTo_S2x5632_S_d0_1 h_S_) main_v32 main_c_11
  fn_part2 (F := F) main_v29 main_v33

def fn {F : FTy → Type} [FloatOps F] (main_arg0 : FVec F S32768x2048 .bf16) (main_arg1 : FVec F S1x2048x1024 .f32) (main_arg2 : FVec F S32768x1024 .f32) (main_arg3 : FVec F S2x1024 .f32) (main_arg4 : FVec F S2x1024x5632 .f32) (main_arg5 : FVec F S2x3x5632 .f32) (main_arg6 : FVec F S2x5632 .f32) (main_arg7 : FVec F S2x2816x1024 .f32) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S1x2048x1024 .f32 := Host.absf main_arg1
  let main_cst_0 : FVec F S_ .f32 := constant S_ .f32 0x7F800000#32
  let main_v6 : FVec F S1x2048x1024 .f32 := broadcastInDim S1x2048x1024 ![] bcast_S_S1x2048x1024 main_cst_0
  let main_v7 : IVec S1x2048x1024 1 := cmpf .olt main_v5 main_v6
  let main_c_1 : IVec S_ 1 := constantI S_ 1 1#1
  let main_v8 : IVec S_ 1 := (fun x v => Host.reduce IntOp.andi x v reducesTo_S1x2048x1024_S_d0_1_2 h_S_) main_v7 main_c_1
  let main_v9 : IVec S_ 1 := andi main_v4 main_v8
  let main_v10 : FVec F S32768x1024 .f32 := Host.absf main_arg2
  let main_cst_2 : FVec F S_ .f32 := constant S_ .f32 0x7F800000#32
  let main_v11 : FVec F S32768x1024 .f32 := broadcastInDim S32768x1024 ![] bcast_S_S32768x1024 main_cst_2
  let main_v12 : IVec S32768x1024 1 := cmpf .olt main_v10 main_v11
  let main_c_3 : IVec S_ 1 := constantI S_ 1 1#1
  let main_v13 : IVec S_ 1 := (fun x v => Host.reduce IntOp.andi x v reducesTo_S32768x1024_S_d0_1 h_S_) main_v12 main_c_3
  let main_v14 : IVec S_ 1 := andi main_v9 main_v13
  let main_v15 : FVec F S2x1024 .f32 := Host.absf main_arg3
  let main_cst_4 : FVec F S_ .f32 := constant S_ .f32 0x7F800000#32
  let main_v16 : FVec F S2x1024 .f32 := broadcastInDim S2x1024 ![] bcast_S_S2x1024 main_cst_4
  fn_part1 (F := F) main_arg4 main_arg5 main_arg6 main_v14 main_v15 main_v16
-- ==== Pre_finite4.lean ====
abbrev S32768x1024 : Shape := ⟨2, ![32768, 1024]⟩
abbrev S1x1024 : Shape := ⟨2, ![1, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5152 : S_.BroadcastsInDim S1x1024x5152 (![] : Fin 0 → Fin S1x1024x5152.rank)
  reducesTo_S1x1024x5152_S_d0_1_2 : S1x1024x5152.ReducesTo [0, 1, 2] S_
  bcast_S_S1x4x3072 : S_.BroadcastsInDim S1x4x3072 (![] : Fin 0 → Fin S1x4x3072.rank)
  reducesTo_S1x4x3072_S_d0_1_2 : S1x4x3072.ReducesTo [0, 1, 2] S_
  bcast_S_S1x3072 : S_.BroadcastsInDim S1x3072 (![] : Fin 0 → Fin S1x3072.rank)
  reducesTo_S1x3072_S_d0_1 : S1x3072.ReducesTo [0, 1] S_

variable [Facts]

def fn_part1 {F : FTy → Type} [FloatOps F] (main_arg4 : FVec F S1x3072 .f32) (main_v13 : IVec S_ 1) (main_v16 : IVec S1x4x3072 1) : IVec S_ 1 :=
  let main_c_5 : IVec S_ 1 := constantI S_ 1 1#1
  let main_v17 : IVec S_ 1 := (fun x v => Host.reduce IntOp.andi x v reducesTo_S1x4x3072_S_d0_1_2 h_S_) main_v16 main_c_5
  let main_v18 : IVec S_ 1 := andi main_v13 main_v17
  let main_v19 : FVec F S1x3072 .f32 := Host.absf main_arg4
  let main_cst_6 : FVec F S_ .f32 := constant S_ .f32 0x7F800000#32
  let main_v20 : FVec F S1x3072 .f32 := broadcastInDim S1x3072 ![] bcast_S_S1x3072 main_cst_6
  let main_v21 : IVec S1x3072 1 := cmpf .olt main_v19 main_v20
  let main_c_7 : IVec S_ 1 := constantI S_ 1 1#1
  let main_v22 : IVec S_ 1 := (fun x v => Host.reduce IntOp.andi x v reducesTo_S1x3072_S_d0_1 h_S_) main_v21 main_c_7
  let main_v23 : IVec S_ 1 := andi main_v18 main_v22
  main_v23

def fn {F : FTy → Type} [FloatOps F] (main_arg0 : FVec F S32768x1024 .f32) (main_arg1 : FVec F S1x1024 .f32) (main_arg2 : FVec F S1x1024x5152 .f32) (main_arg3 : FVec F S1x4x3072 .f32) (main_arg4 : FVec F S1x3072 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5152 .f32 := Host.absf main_arg2
  let main_cst_2 : FVec F S_ .f32 := constant S_ .f32 0x7F800000#32
  let main_v10 : FVec F S1x1024x5152 .f32 := broadcastInDim S1x1024x5152 ![] bcast_S_S1x1024x5152 main_cst_2
  let main_v11 : IVec S1x1024x5152 1 := cmpf .olt main_v9 main_v10
  let main_c_3 : IVec S_ 1 := constantI S_ 1 1#1
  let main_v12 : IVec S_ 1 := (fun x v => Host.reduce IntOp.andi x v reducesTo_S1x1024x5152_S_d0_1_2 h_S_) main_v11 main_c_3
  let main_v13 : IVec S_ 1 := andi main_v8 main_v12
  let main_v14 : FVec F S1x4x3072 .f32 := Host.absf main_arg3
  let main_cst_4 : FVec F S_ .f32 := constant S_ .f32 0x7F800000#32
  let main_v15 : FVec F S1x4x3072 .f32 := broadcastInDim S1x4x3072 ![] bcast_S_S1x4x3072 main_cst_4
  let main_v16 : IVec S1x4x3072 1 := cmpf .olt main_v14 main_v15
  fn_part1 (F := F) main_arg4 main_v13 main_v16
-- ==== Ffn.lean ====
abbrev S32768x1024 : Shape := ⟨2, ![32768, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S512x1024 : Shape := ⟨2, ![512, 1024]⟩
abbrev S1x1024x5632 : Shape := ⟨3, ![1, 1024, 5632]⟩
abbrev S1x2816x1024 : Shape := ⟨3, ![1, 2816, 1024]⟩
abbrev S8x5632 : Shape := ⟨2, ![8, 5632]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S504x5632 : Shape := ⟨2, ![504, 5632]⟩
abbrev S512x2816 : Shape := ⟨2, ![512, 2816]⟩
abbrev S2816x1024 : Shape := ⟨2, ![2816, 1024]⟩

abbrev nBuf : Space → Nat
  | .hbm => 21
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024x5632, .bf16⟩
  | .hbm, ⟨9, _⟩ => ⟨S2x2816x1024, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S1x3x5632, .f32⟩
  | .hbm, ⟨15, _⟩ => ⟨S3x5632, .f32⟩
  | .hbm, ⟨16, _⟩ => ⟨S1x5632, .f32⟩
  | .hbm, ⟨17, _⟩ => ⟨S5632, .f32⟩
  | .hbm, ⟨18, _⟩ => ⟨S1x1024, .f32⟩
  | .hbm, ⟨19, _⟩ => ⟨S1x5632, .f32⟩
  | .hbm, ⟨20, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x5632, .bf16⟩
  | .local _ .vmem, ⟨7, _⟩ => ⟨S3x5632, .f32⟩
  | .local _ .vmem, ⟨8, _⟩ => ⟨S1x5632, .f32⟩
  | .local _ .vmem, ⟨9, _⟩ => ⟨S1x2816x1024, .bf16⟩
  | .local _ .vmem, ⟨10, _⟩ => ⟨S512x1024, .f32⟩
  | .local _ .vmem, ⟨11, _⟩ => ⟨S512x1024, .f32⟩
  | .local _ .vmem, ⟨12, _⟩ => ⟨S8x5632, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S32768x1024 : Shape := ⟨2, ![32768, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S16x2048x1024 : Shape := ⟨3, ![16, 2048, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x1x5632 : Shape := ⟨3, ![1, 1, 5632]⟩
abbrev S16x2048x2816 : Shape := ⟨3, ![16, 2048, 2816]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x1024, .f32⟩
  | .hbm, ⟨2, _⟩ => ⟨S32768x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S16x2048x1024, .f32⟩
  | .hbm, ⟨9, _⟩ => ⟨S32768x1024, .f32⟩
  | .hbm, ⟨10, _⟩ => ⟨S16x2048x1024, .f32⟩
  | .hbm, ⟨11, _⟩ => ⟨S1024x1024, .f32⟩
  | .hbm, ⟨12, _⟩ => ⟨S16x2048x1024, .f32⟩
  | .hbm, ⟨13, _⟩ => ⟨S16x2048x1024, .f32⟩
  | .hbm, ⟨14, _⟩ => ⟨S1x1024, .f32⟩
  | .hbm, ⟨15, _⟩ => ⟨S1024, .f32⟩
  | .hbm, ⟨16, _⟩ => ⟨S1x1024x5632, .f32⟩
  | .hbm, ⟨17, _⟩ => ⟨S1024x5632, .f32⟩
  | .hbm, ⟨18, _⟩ => ⟨S1x3x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x2816x1024, .f32⟩
  | .hbm, ⟨23, _⟩ => ⟨S2816x1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x5632, .f32⟩
  | .hbm, ⟨41, _⟩ => ⟨S_, .i32⟩
  | .hbm, ⟨42, _⟩ => ⟨S_, .f32⟩
  | .hbm, ⟨43, _⟩ => ⟨S16x2050x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S16x2048x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S16x2048x5632, .f32⟩
  | .hbm, ⟨62, _⟩ => ⟨S16x2048x5632, .f32⟩
  | .hbm, ⟨63, _⟩ => ⟨S16x2048x5632, .f32⟩
  | .hbm, ⟨64, _⟩ => ⟨S1x1x5632, .f32⟩
  | .hbm, ⟨65, _⟩ => ⟨S16x2048x5632, .f32⟩
  | .hbm, ⟨66, _⟩ => ⟨S16x2048x5632, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S_, .f32⟩
  | .hbm, ⟨72, _⟩ => ⟨S16x2048x2816, .f32⟩
  | .hbm, ⟨73, _⟩ => ⟨S16x2048x2816, .f32⟩
  | .hbm, ⟨74, _⟩ => ⟨S_, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x1024, .f32⟩
  | .hbm, ⟨80, _⟩ => ⟨S16x2048x1024, .f32⟩
  | .hbm, ⟨81, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== FfnA.lean ====
abbrev S32768x2048 : Shape := ⟨2, ![32768, 2048]⟩
abbrev S1x2048x1024 : Shape := ⟨3, ![1, 2048, 1024]⟩
abbrev S32768x1024 : Shape := ⟨2, ![32768, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2048x1024 : Shape := ⟨2, ![2048, 1024]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S512x2048 : Shape := ⟨2, ![512, 2048]⟩
abbrev S512x1024 : Shape := ⟨2, ![512, 1024]⟩
abbrev S1x1024x5632 : Shape := ⟨3, ![1, 1024, 5632]⟩
abbrev S1x2816x1024 : Shape := ⟨3, ![1, 2816, 1024]⟩
abbrev S8x5632 : Shape := ⟨2, ![8, 5632]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S504x5632 : Shape := ⟨2, ![504, 5632]⟩
abbrev S512x2816 : Shape := ⟨2, ![512, 2816]⟩
abbrev S2816x1024 : Shape := ⟨2, ![2816, 1024]⟩

abbrev nBuf : Space → Nat
  | .hbm => 21
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S1x2048x1024, .f32⟩
  | .hbm, ⟨2, _⟩ => ⟨S32768x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024x5632, .bf16⟩
  | .hbm, ⟨9, _⟩ => ⟨S2x2816x1024, .bf16⟩
  | .hbm, ⟨10, _⟩ => ⟨S2048x1024, .f32⟩
  | .hbm, ⟨11, _⟩ => ⟨S2048x1024, .bf16⟩
  | .hbm, ⟨12, _⟩ => ⟨S1x1024, .f32⟩
  | .hbm, ⟨13, _⟩ => ⟨S1024, .f32⟩
  | .hbm, ⟨14, _⟩ => ⟨S1x3x5632, .f32⟩
  | .hbm, ⟨15, _⟩ => ⟨S3x5632, .f32⟩
  | .hbm, ⟨16, _⟩ => ⟨S1x5632, .f32⟩
  | .hbm, ⟨17, _⟩ => ⟨S5632, .f32⟩
  | .hbm, ⟨18, _⟩ => ⟨S1x1024, .f32⟩
  | .hbm, ⟨19, _⟩ => ⟨S1x5632, .f32⟩
  | .hbm, ⟨20, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x5632, .bf16⟩
  | .local _ .vmem, ⟨7, _⟩ => ⟨S3x5632, .f32⟩
  | .local _ .vmem, ⟨8, _⟩ => ⟨S1x5632, .f32⟩
  | .local _ .vmem, ⟨9, _⟩ => ⟨S1x2816x1024, .bf16⟩
  | .local _ .vmem, ⟨10, _⟩ => ⟨S512x1024, .f32⟩
  | .local _ .vmem, ⟨11, _⟩ => ⟨S512x1024, .f32⟩
  | .local _ .vmem, ⟨12, _⟩ => ⟨S8x5632, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnARefIdeal.lean ====
abbrev S32768x2048 : Shape := ⟨2, ![32768, 2048]⟩
abbrev S1x2048x1024 : Shape := ⟨3, ![1, 2048, 1024]⟩
abbrev S32768x1024 : Shape := ⟨2, ![32768, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S16x2048x1024 : Shape := ⟨3, ![16, 2048, 1024]⟩
abbrev S16x2048x2048 : Shape := ⟨3, ![16, 2048, 2048]⟩
abbrev S2048x1024 : Shape := ⟨2, ![2048, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x1x5632 : Shape := ⟨3, ![1, 1, 5632]⟩
abbrev S16x2048x2816 : Shape := ⟨3, ![16, 2048, 2816]⟩

abbrev nBuf : Space → Nat
  | .hbm => 82
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x1024, .f32⟩
  | .hbm, ⟨2, _⟩ => ⟨S32768x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S16x2048x1024, .f32⟩
  | .hbm, ⟨9, _⟩ => ⟨S32768x2048, .f32⟩
  | .hbm, ⟨10, _⟩ => ⟨S16x2048x2048, .f32⟩
  | .hbm, ⟨11, _⟩ => ⟨S2048x1024, .f32⟩
  | .hbm, ⟨12, _⟩ => ⟨S16x2048x1024, .f32⟩
  | .hbm, ⟨13, _⟩ => ⟨S16x2048x1024, .f32⟩
  | .hbm, ⟨14, _⟩ => ⟨S1x1024, .f32⟩
  | .hbm, ⟨15, _⟩ => ⟨S1024, .f32⟩
  | .hbm, ⟨16, _⟩ => ⟨S1x1024x5632, .f32⟩
  | .hbm, ⟨17, _⟩ => ⟨S1024x5632, .f32⟩
  | .hbm, ⟨18, _⟩ => ⟨S1x3x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x2816x1024, .f32⟩
  | .hbm, ⟨23, _⟩ => ⟨S2816x1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S16x2048x5632, .f32⟩
  | .hbm, ⟨41, _⟩ => ⟨S_, .i32⟩
  | .hbm, ⟨42, _⟩ => ⟨S_, .f32⟩
  | .hbm, ⟨43, _⟩ => ⟨S16x2050x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S16x2048x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S16x2048x5632, .f32⟩
  | .hbm, ⟨62, _⟩ => ⟨S16x2048x5632, .f32⟩
  | .hbm, ⟨63, _⟩ => ⟨S16x2048x5632, .f32⟩
  | .hbm, ⟨64, _⟩ => ⟨S1x1x5632, .f32⟩
  | .hbm, ⟨65, _⟩ => ⟨S16x2048x5632, .f32⟩
  | .hbm, ⟨66, _⟩ => ⟨S16x2048x5632, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S_, .f32⟩
  | .hbm, ⟨72, _⟩ => ⟨S16x2048x2816, .f32⟩
  | .hbm, ⟨73, _⟩ => ⟨S16x2048x2816, .f32⟩
  | .hbm, ⟨74, _⟩ => ⟨S_, .f32⟩
  | .hbm, ⟨75, _⟩ => ⟨S16x2048x2816, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x1024, .f32⟩
  | .hbm, ⟨80, _⟩ => ⟨S16x2048x1024, .f32⟩
  | .hbm, ⟨81, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1024x5152 : Shape := ⟨2, ![1024, 5152]⟩
abbrev S1024x32 : Shape := ⟨2, ![1024, 32]⟩
abbrev S_ : Shape := ⟨0, ![]⟩
abbrev S1024x128 : Shape := ⟨2, ![1024, 128]⟩
abbrev S1024 : Shape := ⟨1, ![1024]⟩
abbrev S4x3072 : Shape := ⟨2, ![4, 3072]⟩
abbrev S3072 : Shape := ⟨1, ![3072]⟩
abbrev S256x2048x128 : Shape := ⟨3, ![256, 2048, 128]⟩
abbrev S32768x512 : Shape := ⟨2, ![32768, 512]⟩
abbrev S32768x128 : Shape := ⟨2, ![32768, 128]⟩
abbrev S512x1024 : Shape := ⟨2, ![512, 1024]⟩
abbrev S4x2048x128 : Shape := ⟨3, ![4, 2048, 128]⟩
abbrev S512x512 : Shape := ⟨2, ![512, 512]⟩
abbrev S512x128 : Shape := ⟨2, ![512, 128]⟩
abbrev S24x3072 : Shape := ⟨2, ![24, 3072]⟩
abbrev S512 : Shape := ⟨1, ![512]⟩
abbrev S512x1 : Shape := ⟨2, ![512, 1]⟩
abbrev S128x128 : Shape := ⟨2, ![128, 128]⟩
abbrev S128x1024 : Shape := ⟨2, ![128, 1024]⟩
abbrev S1024x3072 : Shape := ⟨2, ![1024, 3072]⟩
abbrev S512x3072 : Shape := ⟨2, ![512, 3072]⟩
abbrev S1024x2048 : Shape := ⟨2, ![1024, 2048]⟩
abbrev S512x2048 : Shape := ⟨2, ![512, 2048]⟩
abbrev S128x2048 : Shape := ⟨2, ![128, 2048]⟩
abbrev S2048x128 : Shape := ⟨2, ![2048, 128]⟩
abbrev S1x2048x128 : Shape := ⟨3, ![1, 2048, 128]⟩
abbrev S128x3072 : Shape := ⟨2, ![128, 3072]⟩
abbrev S8x3072 : Shape := ⟨2, ![8, 3072]⟩
abbrev S120x3072 : Shape := ⟨2, ![120, 3072]⟩
abbrev S112x3072 : Shape := ⟨2, ![112, 3072]⟩
abbrev S104x3072 : Shape := ⟨2, ![104, 3072]⟩
abbrev S128x512 : Shape := ⟨2, ![128, 512]⟩

abbrev nBuf : Space → Nat
  | .hbm => 23
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5152, .f32⟩
  | .hbm, ⟨3, _⟩ => ⟨S1x4x3072, .f32⟩
  | .hbm, ⟨4, _⟩ => ⟨S1x3072, .f32⟩
  | .hbm, ⟨5, _⟩ => ⟨S1024x5152, .f32⟩
  | .hbm, ⟨6, _⟩ => ⟨S1024x32, .f32⟩
  | .hbm, ⟨7, _⟩ => ⟨S1024x32, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1024, .f32⟩
  | .hbm, ⟨12, _⟩ => ⟨S1024x5152, .f32⟩
  | .hbm, ⟨13, _⟩ => ⟨S1024x5152, .bf16⟩
  | .hbm, ⟨14, _⟩ => ⟨S4x3072, .f32⟩
  | .hbm, ⟨15, _⟩ => ⟨S3072, .f32⟩
  | .hbm, ⟨16, _⟩ => ⟨S1x3072, .f32⟩
  | .hbm, ⟨17, _⟩ => ⟨S1x1024, .f32⟩
  | .hbm, ⟨18, _⟩ => ⟨S256x2048x128, .f32⟩
  | .hbm, ⟨19, _⟩ => ⟨S256x2048x128, .f32⟩
  | .hbm, ⟨20, _⟩ => ⟨S32768x512, .bf16⟩
  | .hbm, ⟨21, _⟩ => ⟨S32768x512, .bf16⟩
  | .hbm, ⟨22, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5152, .bf16⟩
  | .local _ .vmem, ⟨4, _⟩ => ⟨S1024x128, .bf16⟩
  | .local _ .vmem, ⟨5, _⟩ => ⟨S4x3072, .f32⟩
  | .local _ .vmem, ⟨6, _⟩ => ⟨S1x3072, .f32⟩
  | .local _ .vmem, ⟨7, _⟩ => ⟨S4x2048x128, .f32⟩
  | .local _ .vmem, ⟨8, _⟩ => ⟨S4x2048x128, .f32⟩
  | .local _ .vmem, ⟨9, _⟩ => ⟨S4x2048x128, .f32⟩
  | .local _ .vmem, ⟨10, _⟩ => ⟨S4x2048x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S24x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S32768x1024 : Shape := ⟨2, ![32768, 1024]⟩
abbrev S1x1024 : Shape := ⟨2, ![1, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5152 : Shape := ⟨2, ![1024, 5152]⟩
abbrev S16x2048x5152 : Shape := ⟨3, ![16, 2048, 5152]⟩
abbrev S16x2048x2048 : Shape := ⟨3, ![16, 2048, 2048]⟩
abbrev S16x2048x3072 : Shape := ⟨3, ![16, 2048, 3072]⟩
abbrev S16x2048x32 : Shape := ⟨3, ![16, 2048, 32]⟩
abbrev S4x3072 : Shape := ⟨2, ![4, 3072]⟩
abbrev S3072 : Shape := ⟨1, ![3072]⟩
abbrev S16x2051x3072 : Shape := ⟨3, ![16, 2051, 3072]⟩
abbrev S1x1x3072 : Shape := ⟨3, ![1, 1, 3072]⟩
abbrev S16x2048x512 : Shape := ⟨3, ![16, 2048, 512]⟩
abbrev S16x2048x128 : Shape := ⟨3, ![16, 2048, 128]⟩
abbrev S16x16x8x16x2048 : Shape := ⟨5, ![16, 16, 8, 16, 2048]⟩
abbrev S16x16x16x8x2048 : Shape := ⟨5, ![16, 16, 16, 8, 2048]⟩
abbrev S256x128x2048 : Shape := ⟨3, ![256, 128, 2048]⟩
abbrev S256x2048x128 : Shape := ⟨3, ![256, 2048, 128]⟩
abbrev S16x16x8x16x512 : Shape := ⟨5, ![16, 16, 8, 16, 512]⟩
abbrev S16x16x16x8x512 : Shape := ⟨5, ![16, 16, 16, 8, 512]⟩
abbrev S256x128x512 : Shape := ⟨3, ![256, 128, 512]⟩
abbrev S32768x512 : Shape := ⟨2, ![32768, 512]⟩
abbrev S16x16x8x16x128 : Shape := ⟨5, ![16, 16, 8, 16, 128]⟩
abbrev S16x16x16x8x128 : Shape := ⟨5, ![16, 16, 16, 8, 128]⟩
abbrev S256x128x128 : Shape := ⟨3, ![256, 128, 128]⟩
abbrev S32768x128 : Shape := ⟨2, ![32768, 128]⟩

abbrev nBuf : Space → Nat
  | .hbm => 109
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5152, .f32⟩
  | .hbm, ⟨3, _⟩ => ⟨S1x4x3072, .f32⟩
  | .hbm, ⟨4, _⟩ => ⟨S1x3072, .f32⟩
  | .hbm, ⟨5, _⟩ => ⟨S16x2048x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x5152, .f32⟩
  | .hbm, ⟨24, _⟩ => ⟨S16x2048x5152, .f32⟩
  | .hbm, ⟨25, _⟩ => ⟨S16x2048x2048, .f32⟩
  | .hbm, ⟨26, _⟩ => ⟨S16x2048x3072, .f32⟩
  | .hbm, ⟨27, _⟩ => ⟨S16x2048x32, .f32⟩
  | .hbm, ⟨28, _⟩ => ⟨S4x3072, .f32⟩
  | .hbm, ⟨29, _⟩ => ⟨S3072, .f32⟩
  | .hbm, ⟨30, _⟩ => ⟨S_, .i32⟩
  | .hbm, ⟨31, _⟩ => ⟨S_, .f32⟩
  | .hbm, ⟨32, _⟩ => ⟨S16x2051x3072, .f32⟩
  | .hbm, ⟨33, _⟩ => ⟨S16x2048x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S16x2048x3072, .f32⟩
  | .hbm, ⟨38, _⟩ => ⟨S16x2048x3072, .f32⟩
  | .hbm, ⟨39, _⟩ => ⟨S16x2048x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S16x2048x3072, .f32⟩
  | .hbm, ⟨44, _⟩ => ⟨S16x2048x3072, .f32⟩
  | .hbm, ⟨45, _⟩ => ⟨S16x2048x3072, .f32⟩
  | .hbm, ⟨46, _⟩ => ⟨S16x2048x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S16x2048x3072, .f32⟩
  | .hbm, ⟨51, _⟩ => ⟨S16x2048x3072, .f32⟩
  | .hbm, ⟨52, _⟩ => ⟨S16x2048x3072, .f32⟩
  | .hbm, ⟨53, _⟩ => ⟨S16x2048x3072, .f32⟩
  | .hbm, ⟨54, _⟩ => ⟨S1x3072, .f32⟩
  | .hbm, ⟨55, _⟩ => ⟨S3072, .f32⟩
  | .hbm, ⟨56, _⟩ => ⟨S1x1x3072, .f32⟩
  | .hbm, ⟨57, _⟩ => ⟨S16x2048x3072, .f32⟩
  | .hbm, ⟨58, _⟩ => ⟨S16x2048x3072, .f32⟩
  | .hbm, ⟨59, _⟩ => ⟨S16x2048x3072, .f32⟩
  | .hbm, ⟨60, _⟩ => ⟨S1x1x3072, .f32⟩
  | .hbm, ⟨61, _⟩ => ⟨S16x2048x3072, .f32⟩
  | .hbm, ⟨62, _⟩ => ⟨S16x2048x3072, .f32⟩
  | .hbm, ⟨63, _⟩ => ⟨S16x2048x3072, .f32⟩
  | .hbm, ⟨64, _⟩ => ⟨S16x2048x3072, .f32⟩
  | .hbm, ⟨65, _⟩ => ⟨S_, .f32⟩
  | .hbm, ⟨66, _⟩ => ⟨S16x2048x3072, .f32⟩
  | .hbm, ⟨67, _⟩ => ⟨S16x2048x3072, .f32⟩
  | .hbm, ⟨68, _⟩ => ⟨S_, .f32⟩
  | .hbm, ⟨69, _⟩ => ⟨S16x2048x3072, .f32⟩
  | .hbm, ⟨70, _⟩ => ⟨S16x2048x3072, .f32⟩
  | .hbm, ⟨71, _⟩ => ⟨S16x2048x3072, .f32⟩
  | .hbm, ⟨72, _⟩ => ⟨S16x2048x2048, .f32⟩
  | .hbm, ⟨73, _⟩ => ⟨S16x2048x2048, .f32⟩
  | .hbm, ⟨74, _⟩ => ⟨S_, .f32⟩
  | .hbm, ⟨75, _⟩ => ⟨S16x2048x2048, .f32⟩
  | .hbm, ⟨76, _⟩ => ⟨S16x2048x2048, .f32⟩
  | .hbm, ⟨77, _⟩ => ⟨S_, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S16x2048x512, .f32⟩
  | .hbm, ⟨83, _⟩ => ⟨S16x2048x512, .f32⟩
  | .hbm, ⟨84, _⟩ => ⟨S_, .i32⟩
  | .hbm, ⟨85, _⟩ => ⟨S_, .f32⟩
  | .hbm, ⟨86, _⟩ => ⟨S16x2048x128, .f32⟩
  | .hbm, ⟨87, _⟩ => ⟨S16x16x8x16x2048, .f32⟩
  | .hbm, ⟨88, _⟩ => ⟨S16x16x16x8x2048, .f32⟩
  | .hbm, ⟨89, _⟩ => ⟨S256x128x2048, .f32⟩
  | .hbm, ⟨90, _⟩ => ⟨S256x2048x128, .f32⟩
  | .hbm, ⟨91, _⟩ => ⟨S16x16x8x16x2048, .f32⟩
  | .hbm, ⟨92, _⟩ => ⟨S16x16x16x8x2048, .f32⟩
  | .hbm, ⟨93, _⟩ => ⟨S256x128x2048, .f32⟩
  | .hbm, ⟨94, _⟩ => ⟨S256x2048x128, .f32⟩
  | .hbm, ⟨95, _⟩ => ⟨S16x16x8x16x512, .f32⟩
  | .hbm, ⟨96, _⟩ => ⟨S16x16x16x8x512, .f32⟩
  | .hbm, ⟨97, _⟩ => ⟨S256x128x512, .f32⟩
  | .hbm, ⟨98, _⟩ => ⟨S32768x512, .f32⟩
  | .hbm, ⟨99, _⟩ => ⟨S32768x512, .bf16⟩
  | .hbm, ⟨100, _⟩ => ⟨S16x16x8x16x512, .f32⟩
  | .hbm, ⟨101, _⟩ => ⟨S16x16x16x8x512, .f32⟩
  | .hbm, ⟨102, _⟩ => ⟨S256x128x512, .f32⟩
  | .hbm, ⟨103, _⟩ => ⟨S32768x512, .f32⟩
  | .hbm, ⟨104, _⟩ => ⟨S32768x512, .bf16⟩
  | .hbm, ⟨105, _⟩ => ⟨S16x16x8x16x128, .f32⟩
  | .hbm, ⟨106, _⟩ => ⟨S16x16x16x8x128, .f32⟩
  | .hbm, ⟨107, _⟩ => ⟨S256x128x128, .f32⟩
  | .hbm, ⟨108, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v53 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_2 : Ref sig .tc := ⟨.hbm, 84, rfl⟩
abbrev main_call3_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== Qkv.lean ====
abbrev S32768x1024 : Shape := ⟨2, ![32768, 1024]⟩
abbrev S1024 : Shape := ⟨1, ![1024]⟩
abbrev S1x1024 : Shape := ⟨2, ![1, 1024]⟩
abbrev S1024x2048 : Shape := ⟨2, ![1024, 2048]⟩
abbrev S1x1024x1024 : Shape := ⟨3, ![1, 1024, 1024]⟩
abbrev S64 : Shape := ⟨1, ![64]⟩
abbrev S1x64 : Shape := ⟨2, ![1, 64]⟩
abbrev S1024x1024 : Shape := ⟨2, ![1024, 1024]⟩
abbrev S2x64 : Shape := ⟨2, ![2, 64]⟩
abbrev S128 : Shape := ⟨1, ![128]⟩
abbrev S1x128 : Shape := ⟨2, ![1, 128]⟩
abbrev S8x32768x128 : Shape := ⟨3, ![8, 32768, 128]⟩
abbrev S8x128x512x128 : Shape := ⟨4, ![8, 128, 512, 128]⟩
abbrev S8x1024x128 : Shape := ⟨3, ![8, 1024, 128]⟩
abbrev S8x4x512x128 : Shape := ⟨4, ![8, 4, 512, 128]⟩
abbrev S1024x1 : Shape := ⟨2, ![1024, 1]⟩
abbrev S1024x128 : Shape := ⟨2, ![1024, 128]⟩
abbrev S1x1024x128 : Shape := ⟨3, ![1, 1024, 128]⟩
abbrev S256x128 : Shape := ⟨2, ![256, 128]⟩
abbrev S1x1x256x128 : Shape := ⟨4, ![1, 1, 256, 128]⟩

abbrev nBuf : Space → Nat
  | .hbm => 25
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024x2048, .f32⟩
  | .hbm, ⟨4, _⟩ => ⟨S1x1024x1024, .f32⟩
  | .hbm, ⟨5, _⟩ => ⟨S64, .f32⟩
  | .hbm, ⟨6, _⟩ => ⟨S1x64, .f32⟩
  | .hbm, ⟨7, _⟩ => ⟨S1024, .f32⟩
  | .hbm, ⟨8, _⟩ => ⟨S1024x2048, .bf16⟩
  | .hbm, ⟨9, _⟩ => ⟨S1024x1024, .f32⟩
  | .hbm, ⟨10, _⟩ => ⟨S1024x1024, .bf16⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x1024, .f32⟩
  | .hbm, ⟨21, _⟩ => ⟨S1x1024, .f32⟩
  | .hbm, ⟨22, _⟩ => ⟨S8x32768x128, .bf16⟩
  | .hbm, ⟨23, _⟩ => ⟨S8x32768x128, .bf16⟩
  | .hbm, ⟨24, _⟩ => ⟨S8x128x512x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1x128, .f32⟩
  | .local _ .vmem, ⟨7, _⟩ => ⟨S1x128, .f32⟩
  | .local _ .vmem, ⟨8, _⟩ => ⟨S8x1024x128, .bf16⟩
  | .local _ .vmem, ⟨9, _⟩ => ⟨S8x1024x128, .bf16⟩
  | .local _ .vmem, ⟨10, _⟩ => ⟨S8x1024x128, .bf16⟩
  | .local _ .vmem, ⟨11, _⟩ => ⟨S8x1024x128, .bf16⟩
  | .local _ .vmem, ⟨12, _⟩ => ⟨S8x4x512x128, .bf16⟩
  | .local _ .vmem, ⟨13, _⟩ => ⟨S8x4x512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvIdeal.lean ====
variable {F : FTy → Type} [FloatOps F] [Named F]
def κ : String → Option EReal := fun
  | "scale" => some (((Real.log 256)⁻¹ : ℝ) : EReal)
  | _ => none
-- ==== QkvRefIdeal.lean ====
abbrev S32768x1024 : Shape := ⟨2, ![32768, 1024]⟩
abbrev S1024 : Shape := ⟨1, ![1024]⟩
abbrev S1x1024 : Shape := ⟨2, ![1, 1024]⟩
abbrev S1024x2048 : Shape := ⟨2, ![1024, 2048]⟩
abbrev S1x1024x1024 : Shape := ⟨3, ![1, 1024, 1024]⟩
abbrev S64 : Shape := ⟨1, ![64]⟩
abbrev S1x64 : Shape := ⟨2, ![1, 64]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S16x2048x8x2x64 : Shape := ⟨5, ![16, 2048, 8, 2, 64]⟩
abbrev S16x2048x8x2 : Shape := ⟨4, ![16, 2048, 8, 2]⟩
abbrev S16x2048x8x2x1 : Shape := ⟨5, ![16, 2048, 8, 2, 1]⟩
abbrev S1x1x1x1x64 : Shape := ⟨5, ![1, 1, 1, 1, 64]⟩
abbrev S16x2048x8x128 : Shape := ⟨4, ![16, 2048, 8, 128]⟩
abbrev S1024x1024 : Shape := ⟨2, ![1024, 1024]⟩
abbrev S128x256x8x2x64 : Shape := ⟨5, ![128, 256, 8, 2, 64]⟩
abbrev S128x256x8x64 : Shape := ⟨4, ![128, 256, 8, 64]⟩
abbrev S128x256x8x1x64 : Shape := ⟨5, ![128, 256, 8, 1, 64]⟩
abbrev S128x256x8x128 : Shape := ⟨4, ![128, 256, 8, 128]⟩
abbrev S128x512x8x128 : Shape := ⟨4, ![128, 512, 8, 128]⟩
abbrev S32768x8x128 : Shape := ⟨3, ![32768, 8, 128]⟩
abbrev S8x32768x128 : Shape := ⟨3, ![8, 32768, 128]⟩
abbrev S8x128x512x128 : Shape := ⟨4, ![8, 128, 512, 128]⟩

abbrev nBuf : Space → Nat
  | .hbm => 107
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024x2048, .f32⟩
  | .hbm, ⟨4, _⟩ => ⟨S1x1024x1024, .f32⟩
  | .hbm, ⟨5, _⟩ => ⟨S64, .f32⟩
  | .hbm, ⟨6, _⟩ => ⟨S1x64, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x2048, .f32⟩
  | .hbm, ⟨25, _⟩ => ⟨S16x2048x1024, .f32⟩
  | .hbm, ⟨26, _⟩ => ⟨S16x2048x8x2x64, .f32⟩
  | .hbm, ⟨27, _⟩ => ⟨S16x2048x8x2x64, .f32⟩
  | .hbm, ⟨28, _⟩ => ⟨S_, .f32⟩
  | .hbm, ⟨29, _⟩ => ⟨S16x2048x8x2, .f32⟩
  | .hbm, ⟨30, _⟩ => ⟨S16x2048x8x2x1, .f32⟩
  | .hbm, ⟨31, _⟩ => ⟨S_, .f32⟩
  | .hbm, ⟨32, _⟩ => ⟨S16x2048x8x2x1, .f32⟩
  | .hbm, ⟨33, _⟩ => ⟨S16x2048x8x2x1, .f32⟩
  | .hbm, ⟨34, _⟩ => ⟨S_, .f32⟩
  | .hbm, ⟨35, _⟩ => ⟨S16x2048x8x2x1, .f32⟩
  | .hbm, ⟨36, _⟩ => ⟨S16x2048x8x2x1, .f32⟩
  | .hbm, ⟨37, _⟩ => ⟨S16x2048x8x2x1, .f32⟩
  | .hbm, ⟨38, _⟩ => ⟨S16x2048x8x2x64, .f32⟩
  | .hbm, ⟨39, _⟩ => ⟨S16x2048x8x2x64, .f32⟩
  | .hbm, ⟨40, _⟩ => ⟨S1x1x1x1x64, .f32⟩
  | .hbm, ⟨41, _⟩ => ⟨S16x2048x8x2x64, .f32⟩
  | .hbm, ⟨42, _⟩ => ⟨S16x2048x8x2x64, .f32⟩
  | .hbm, ⟨43, _⟩ => ⟨S16x2048x1024, .f32⟩
  | .hbm, ⟨44, _⟩ => ⟨S16x2048x8x128, .f32⟩
  | .hbm, ⟨45, _⟩ => ⟨S1024, .f32⟩
  | .hbm, ⟨46, _⟩ => ⟨S16x2048x1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S1x1x1024, .f32⟩
  | .hbm, ⟨60, _⟩ => ⟨S16x2048x1024, .f32⟩
  | .hbm, ⟨61, _⟩ => ⟨S16x2048x1024, .f32⟩
  | .hbm, ⟨62, _⟩ => ⟨S1024x1024, .f32⟩
  | .hbm, ⟨63, _⟩ => ⟨S16x2048x1024, .f32⟩
  | .hbm, ⟨64, _⟩ => ⟨S16x2048x8x2x64, .f32⟩
  | .hbm, ⟨65, _⟩ => ⟨S64, .f32⟩
  | .hbm, ⟨66, _⟩ => ⟨S16x2048x8x2x64, .f32⟩
  | .hbm, ⟨67, _⟩ => ⟨S_, .f32⟩
  | .hbm, ⟨68, _⟩ => ⟨S16x2048x8x2, .f32⟩
  | .hbm, ⟨69, _⟩ => ⟨S16x2048x8x2x1, .f32⟩
  | .hbm, ⟨70, _⟩ => ⟨S_, .f32⟩
  | .hbm, ⟨71, _⟩ => ⟨S16x2048x8x2x1, .f32⟩
  | .hbm, ⟨72, _⟩ => ⟨S16x2048x8x2x1, .f32⟩
  | .hbm, ⟨73, _⟩ => ⟨S_, .f32⟩
  | .hbm, ⟨74, _⟩ => ⟨S16x2048x8x2x1, .f32⟩
  | .hbm, ⟨75, _⟩ => ⟨S16x2048x8x2x1, .f32⟩
  | .hbm, ⟨76, _⟩ => ⟨S16x2048x8x2x1, .f32⟩
  | .hbm, ⟨77, _⟩ => ⟨S16x2048x8x2x64, .f32⟩
  | .hbm, ⟨78, _⟩ => ⟨S16x2048x8x2x64, .f32⟩
  | .hbm, ⟨79, _⟩ => ⟨S1x1x1x1x64, .f32⟩
  | .hbm, ⟨80, _⟩ => ⟨S16x2048x8x2x64, .f32⟩
  | .hbm, ⟨81, _⟩ => ⟨S16x2048x8x2x64, .f32⟩
  | .hbm, ⟨82, _⟩ => ⟨S_, .f32⟩
  | .hbm, ⟨83, _⟩ => ⟨S16x2048x8x2x64, .f32⟩
  | .hbm, ⟨84, _⟩ => ⟨S16x2048x8x2x64, .f32⟩
  | .hbm, ⟨85, _⟩ => ⟨S_, .f32⟩
  | .hbm, ⟨86, _⟩ => ⟨S_, .f32⟩
  | .hbm, ⟨87, _⟩ => ⟨S16x2048x8x2x64, .f32⟩
  | .hbm, ⟨88, _⟩ => ⟨S16x2048x8x2x64, .f32⟩
  | .hbm, ⟨89, _⟩ => ⟨S128x256x8x2x64, .f32⟩
  | .hbm, ⟨90, _⟩ => ⟨S_, .f32⟩
  | .hbm, ⟨91, _⟩ => ⟨S128x256x8x64, .f32⟩
  | .hbm, ⟨92, _⟩ => ⟨S128x256x8x1x64, .f32⟩
  | .hbm, ⟨93, _⟩ => ⟨S128x256x8x64, .f32⟩
  | .hbm, ⟨94, _⟩ => ⟨S128x256x8x128, .f32⟩
  | .hbm, ⟨95, _⟩ => ⟨S128x256x8x1x64, .f32⟩
  | .hbm, ⟨96, _⟩ => ⟨S128x256x8x64, .f32⟩
  | .hbm, ⟨97, _⟩ => ⟨S128x256x8x128, .f32⟩
  | .hbm, ⟨98, _⟩ => ⟨S128x512x8x128, .f32⟩
  | .hbm, ⟨99, _⟩ => ⟨S32768x8x128, .f32⟩
  | .hbm, ⟨100, _⟩ => ⟨S8x32768x128, .f32⟩
  | .hbm, ⟨101, _⟩ => ⟨S8x32768x128, .bf16⟩
  | .hbm, ⟨102, _⟩ => ⟨S32768x8x128, .f32⟩
  | .hbm, ⟨103, _⟩ => ⟨S8x32768x128, .f32⟩
  | .hbm, ⟨104, _⟩ => ⟨S8x32768x128, .bf16⟩
  | .hbm, ⟨105, _⟩ => ⟨S8x128x512x128, .f32⟩
  | .hbm, ⟨106, _⟩ => ⟨S8x128x512x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Proof.Common.Reals.lean ====
/-
  Extended reals that are real numbers: what the two value claims use of finiteness. Sums and products of real
  values are real, the sigmoid-weighted gate written with `tanh` is the one written with the exponential, and the
  constants the programs print denote the numbers they should.
-/
module

public import Idealize.ShloMosaic.PureOps.Ideal
public import Idealize.ShloMosaic.PureOps.Ideal.Laws
public import Idealize.ShloMosaic.Lib.Pointwise
public import Idealize.ShloMosaic.Lib.ReduceAll
public import Idealize.ShloMosaic.Lib.IdealHost

@[expose] public section

noncomputable section

namespace Cert.Proof.Reals

open Idealize.ShloMosaic
open scoped BigOperators

/-- The extended real `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A value whose absolute value is below `⊤` is real. -/
theorem isReal_of_abs_lt_top {x : EReal} (h : max x (-x) < ⊤) : IsReal x := by
  induction x using EReal.rec with
  | bot => simp at h
  | top => simp at h
  | coe r => exact ⟨r, rfl⟩

/-! ### Constants -/

theorem ofBits_half : Ideal.ofBits .f32 0x3F000000#32 = ((1 / 2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_inf : Ideal.ofBits .f32 0x7F800000#32 = (⊤ : EReal) := by
  simp [Ideal.ofBits, Ideal.ieee, -EReal.coe_mul]
theorem ofBits_eps : ∃ e : ℝ, 0 < e ∧ Ideal.ofBits .f32 0x358637BD#32 = ((e : ℝ) : EReal) := by
  refine ⟨_, ?_, by simp [Ideal.ofBits, Ideal.ieee, -EReal.coe_mul]; rfl⟩
  positivity

/-! ### The gate -/

/-- `x · sigmoid x` written by half-angles: `(x/2) · tanh (x/2) + x/2`. -/
theorem half_tanh (x : ℝ) : (1 / 2 * x) * Real.tanh (1 / 2 * x) + 1 / 2 * x = x * (1 + Real.exp (-x))⁻¹ := by
  rw [Real.tanh_eq_sinh_div_cosh, Real.sinh_eq, Real.cosh_eq]
  have h1 : Real.exp (1 / 2 * x) * Real.exp (-(1 / 2 * x)) = 1 := by rw [← Real.exp_add]; simp
  have h2 : Real.exp (-x) = Real.exp (-(1 / 2 * x)) * Real.exp (-(1 / 2 * x)) := by rw [← Real.exp_add]; ring_nf
  have p1 := Real.exp_pos (1 / 2 * x)
  have p2 := Real.exp_pos (-(1 / 2 * x))
  rw [h2]
  generalize Real.exp (1 / 2 * x) = a at *
  generalize Real.exp (-(1 / 2 * x)) = b at *
  have hb : b = a⁻¹ := by field_simp; linarith
  subst hb
  field_simp
  ring

theorem gate_eq {x : EReal} (hx : IsReal x) :
    (Ideal.ofBits .f32 0x3F000000#32 * x) * Ideal.tanh (Ideal.ofBits .f32 0x3F000000#32 * x) + Ideal.ofBits .f32 0x3F000000#32 * x
      = x * Ideal.logistic x := by
  obtain ⟨r, rfl⟩ := hx
  rw [ofBits_half, Ideal.logistic_coe]
  simp only [← EReal.coe_mul, Ideal.tanh_coe, ← EReal.coe_add]
  rw [half_tanh]

/-- The reciprocal root of a mean of squares plus a positive number is real. -/
theorem isReal_rsqrt_mean {ι : Type*} [Fintype ι] {f : ι → EReal} (hf : ∀ i, IsReal (f i)) {n e : EReal} (a b : ℝ)
    (hn : n = (a : EReal)) (ha : 0 < a) (he : e = (b : EReal)) (hb : 0 < b) :
    IsReal (Ideal.rsqrt (Ideal.div (∑ i, f i * f i) n + e)) := by
  choose g hg using hf
  subst hn he
  have h1 : ∑ i, f i * f i = ((∑ i, g i * g i : ℝ) : EReal) := by
    rw [coe_sum]; exact Finset.sum_congr rfl fun i _ => by rw [hg i, EReal.coe_mul]
  rw [h1, Ideal.div_coe ha.ne', ← EReal.coe_mul, ← EReal.coe_add, Ideal.rsqrt_coe]
  have h0 : 0 ≤ ∑ i, g i * g i := Finset.sum_nonneg fun i _ => mul_self_nonneg _
  have hp : 0 < (∑ i, g i * g i) * (1 / a) + b := by positivity
  rw [if_neg hp.le.not_gt, if_neg hp.ne']
  exact ⟨_, rfl⟩

end Cert.Proof.Reals

end
-- ==== Proof.Ffn.Model.lean ====
/-
  The convolutional feed-forward part of one layer, as mathematics over the extended reals, with the residual and the
  mixer's output projection before it: written the way the kernel groups it (`outK`) and the way the reference does
  (`out`), and that the two are equal when what reaches the activation is real.
-/
module

public import proofs.«01_k».proof.Proof.Common.Reals

@[expose] public section

noncomputable section

namespace Cert.Proof.Ffn

open Idealize.ShloMosaic Cert.Proof.Reals
open scoped BigOperators

/-- The operands: the mixer's result and its projection, the residual stream, the norm's gain, the two projections of
    the feed-forward part and its three-tap convolution along the sequence. Rows are batch-major positions. -/
structure Data (dm : ℕ) where
  mix : Fin 32768 → Fin dm → EReal
  wmix : Fin dm → Fin 1024 → EReal
  h : Fin 32768 → Fin 1024 → EReal
  g : Fin 1024 → EReal
  up : Fin 1024 → Fin 5632 → EReal
  cw : Fin 3 → Fin 5632 → EReal
  cb : Fin 5632 → EReal
  down : Fin 2816 → Fin 1024 → EReal

namespace Data

variable {dm : ℕ} (D : Data dm)

/-- The residual stream after the mixer. -/
def x (n : Fin 32768) (d : Fin 1024) : EReal := D.h n d + ∑ k, D.mix n k * D.wmix k d

/-- Its root-mean-square norm with gain. -/
def xn (n : Fin 32768) (d : Fin 1024) : EReal :=
  D.x n d * Ideal.rsqrt (Ideal.div (∑ e, D.x n e * D.x n e) (Ideal.ofBits .f32 0x44800000#32) + Ideal.ofBits .f32 0x358637BD#32) * D.g d

/-- The widened row. -/
def u (n : Fin 32768) (j : Fin 5632) : EReal := ∑ d, D.xn n d * D.up d j

/-- The widened row `s` steps earlier in the same sequence of 2048, zero before its start. -/
def back (n : Fin 32768) (s : ℕ) (j : Fin 5632) : EReal :=
  if n.val % 2048 < s then 0 else D.u ⟨n.val - s, lt_of_le_of_lt (Nat.sub_le _ _) n.isLt⟩ j

/-- The causal convolution, its terms in the kernel's order. -/
def cvK (n : Fin 32768) (j : Fin 5632) : EReal :=
  D.cw 2 j * D.u n j + D.cb j + D.cw 1 j * D.back n 1 j + D.cw 0 j * D.back n 2 j

/-- The causal convolution, its terms in the reference's order. -/
def cv (n : Fin 32768) (j : Fin 5632) : EReal :=
  D.back n 2 j * D.cw 0 j + D.back n 1 j * D.cw 1 j + D.u n j * D.cw 2 j + D.cb j

theorem cvK_eq (n : Fin 32768) (j : Fin 5632) : D.cvK n j = D.cv n j := by
  unfold cvK cv
  rw [mul_comm (D.cw 2 j), mul_comm (D.cw 1 j), mul_comm (D.cw 0 j)]
  ac_rfl

/-- The kernel's gate, by half-angles. -/
def gateK (y : EReal) : EReal :=
  Ideal.ofBits .f32 0x3F000000#32 * y * Ideal.tanh (Ideal.ofBits .f32 0x3F000000#32 * y) + Ideal.ofBits .f32 0x3F000000#32 * y

/-- Column `j` of the gate half and of the other half. -/
abbrev lo (j : Fin 2816) : Fin 5632 := ⟨j.val, by omega⟩
abbrev hi (j : Fin 2816) : Fin 5632 := ⟨2816 + j.val, by omega⟩

/-- The result as the kernel computes it. -/
def outK (n : Fin 32768) (d : Fin 1024) : EReal :=
  D.x n d + ∑ j, gateK (D.cvK n (lo j)) * D.cvK n (hi j) * D.down j d

/-- The result as the reference states it. -/
def out (n : Fin 32768) (d : Fin 1024) : EReal :=
  D.x n d + ∑ j, D.cv n (lo j) * Ideal.logistic (D.cv n (lo j)) * D.cv n (hi j) * D.down j d

/-- What the activation's argument depends on is real. -/
structure Finite : Prop where
  mix : ∀ n k, IsReal (D.mix n k)
  wmix : ∀ k d, IsReal (D.wmix k d)
  h : ∀ n d, IsReal (D.h n d)
  g : ∀ d, IsReal (D.g d)
  up : ∀ d j, IsReal (D.up d j)
  cw : ∀ s j, IsReal (D.cw s j)
  cb : ∀ j, IsReal (D.cb j)

variable {D}

theorem Finite.x (H : D.Finite) (n : Fin 32768) (d : Fin 1024) : IsReal (D.x n d) :=
  (H.h n d).add (IsReal.sum _ fun k _ => (H.mix n k).mul (H.wmix k d))

theorem Finite.xn (H : D.Finite) (n : Fin 32768) (d : Fin 1024) : IsReal (D.xn n d) := by
  obtain ⟨e, he, hE⟩ := ofBits_eps
  exact ((H.x n d).mul (isReal_rsqrt_mean (fun i => H.x n i) 1024 e ofBits_1024 (by norm_num) hE he)).mul (H.g d)

theorem Finite.u (H : D.Finite) (n : Fin 32768) (j : Fin 5632) : IsReal (D.u n j) :=
  IsReal.sum _ fun d _ => (H.xn n d).mul (H.up d j)

theorem Finite.back (H : D.Finite) (n : Fin 32768) (s : ℕ) (j : Fin 5632) : IsReal (D.back n s j) := by
  unfold Data.back
  split
  · exact IsReal.zero
  · exact H.u _ j

theorem Finite.cv (H : D.Finite) (n : Fin 32768) (j : Fin 5632) : IsReal (D.cv n j) :=
  ((((H.back n 2 j).mul (H.cw 0 j)).add ((H.back n 1 j).mul (H.cw 1 j))).add ((H.u n j).mul (H.cw 2 j))).add (H.cb j)

/-- The two results are equal. -/
theorem Finite.outK_eq (H : D.Finite) (n : Fin 32768) (d : Fin 1024) : D.outK n d = D.out n d := by
  unfold outK out
  congr 1
  refine Finset.sum_congr rfl fun j _ => ?_
  rw [cvK_eq, cvK_eq]
  unfold gateK
  rw [gate_eq (H.cv n _)]

end Data

end Cert.Proof.Ffn

end
-- ==== Proof.Ffn.Block.lean ====
/-
  One block of 512 rows of the feed-forward kernel, read off its stored values: given that the staged blocks hold the
  rows of the operands, the widened rows, the convolution over the block with the last rows of the block before, and
  the block's result are the rows of `Ffn.Data`'s.
-/
module

public import proofs.«01_k».proof.Proof.Ffn.Model
public import proofs.«01_k».proof.Proof.Gen.FfnIdeal.Skeleton

@[expose] public section

set_option maxRecDepth 16384

noncomputable section

namespace Cert.Proof.Ffn

open Idealize.ShloMosaic
open Cert.FfnIdeal Cert.FfnIdeal.Gen

/-- Row `r` of block `t`. -/
abbrev row (t : Fin 64) (r : Fin 512) : Fin 32768 := ⟨512 * t.val + r.val, by omega⟩

/-- Row `r` of the last eight rows of the block before `t` (of block `0` itself where there is none). -/
abbrev prevRow (t : Fin 64) (r : Fin 8) : Fin 32768 := ⟨512 * (t.val - 1) + 504 + r.val, by omega⟩

variable {dm : ℕ} (D : Data dm) (t : Fin 64)

/-- The last eight widened rows of the block before, zero at the start of a sequence. -/
def tail (r : Fin 8) (j : Fin 5632) : EReal := if t.val % 4 = 0 then 0 else D.u (prevRow t r) j

variable {D t}

/-- The normalized rows, from the rows of the residual stream. -/
theorem pay5_row {x2 : Vec Ideal S512x1024 .f32} {x0 : Vec Ideal S512x1024 .bf16} {x1 : Vec Ideal S1024x1024 .bf16} {x3 : Vec Ideal S1x1024 .f32}
    (hx : ∀ r d, k0_pay4 x2 x0 x1 (ix2 r d) = D.x (row t r) d) (hg : ∀ d, x3 (ix2 0 d) = D.g d) (r : Fin 512) (d : Fin 1024) :
    k0_pay5 x2 x0 x1 x3 (ix2 r d) = D.xn (row t r) d := by
  pointwise [k0_pay5]
  simp only [hx, hg]
  rfl

/-- The widened rows. -/
theorem pay6_row {v : FVec Ideal S512x1024 .bf16} {x4 : Vec Ideal S1x1024x5632 .bf16}
    (hv : ∀ r d, v (ix2 r d) = D.xn (row t r) d) (hu : ∀ d j, x4 (ix3 0 d j) = D.up d j) (r : Fin 512) (j : Fin 5632) :
    k0_pay6 v x4 (ix2 r j) = D.u (row t r) j := by
  pointwise [k0_pay6]
  simp only [hv, hu]
  rfl

/-- The row `s` steps back, across the block's start. -/
theorem back_of (r : Fin 512) (j : Fin 5632) (s : ℕ) (hs : 0 < s) (hs' : s < 8) (i : Fin 512) (i' : Fin 8)
    (hi : s ≤ r.val → i.val = r.val - s) (hi' : r.val < s → i'.val = r.val + 8 - s) :
    (if r.val < s then tail D t i' j else D.u (row t i) j) = D.back (row t r) s j := by
  unfold Data.back tail
  have hr := r.isLt
  have ht := t.isLt
  by_cases h : r.val < s
  · rw [if_pos h]
    have e' := hi' h
    by_cases h4 : t.val % 4 = 0
    · rw [if_pos h4, if_pos (by show (512 * t.val + r.val) % 2048 < s; omega)]
    · rw [if_neg h4, if_neg (by show ¬(512 * t.val + r.val) % 2048 < s; omega)]
      congr 1
      apply Fin.ext
      show 512 * (t.val - 1) + 504 + i'.val = 512 * t.val + r.val - s
      omega
  · rw [if_neg h, if_neg (by show ¬(512 * t.val + r.val) % 2048 < s; omega)]
    have e := hi (by omega)
    congr 1
    apply Fin.ext
    show 512 * t.val + i.val = 512 * t.val + r.val - s
    omega

/-- The kernel's choice between a rotated row of the block and a rotated row of the carried one. -/
theorem pick {α : Type} (r : Fin 512) (s : BitVec 32) (hs : s.toNat < 8) (a b c : α) (hbc : ¬r.val < 8 → c = b) :
    (if _h : r.val < 8 then Scalar.select (IntOp.cmpi .slt (BitVec.ofNat 32 r.val) s) a b else c) = if r.val < s.toNat then a else b := by
  have hr := r.isLt
  have hlt : IntOp.cmpi .slt (BitVec.ofNat 32 r.val) s = 1#1 ↔ r.val < s.toNat := by
    rw [IntOp.cmpi_slt, BitVec.toInt_eq_toNat_of_lt (by rw [BitVec.toNat_ofNat]; omega), BitVec.toInt_eq_toNat_of_lt (by omega), BitVec.toNat_ofNat]
    omega
  by_cases h8 : r.val < 8
  · rw [dif_pos h8]
    show (if _ = 1#1 then a else b) = _
    by_cases h : r.val < s.toNat
    · rw [if_pos (hlt.2 h), if_pos h]
    · rw [if_neg (fun e => h (hlt.1 e)), if_neg h]
  · rw [dif_neg h8, if_neg (by omega), hbc h8]

/-- The kernel's row `s` steps back. -/
theorem pick_back (r : Fin 512) (j : Fin 5632) (s : ℕ) (w : BitVec 32) (hw : w.toNat = s) (hs : 0 < s) (hs' : s < 8) (i' : Fin 8) (i k : Fin 512)
    (hi' : r.val < s → i'.val = r.val + 8 - s) (hi : s ≤ r.val → i.val = r.val - s) (hk : 8 ≤ r.val → k.val = r.val - s) :
    (if _h : r.val < 8 then Scalar.select (IntOp.cmpi .slt (BitVec.ofNat 32 r.val) w) (tail D t i' j) (D.u (row t i) j) else D.u (row t k) j)
      = D.back (row t r) s j := by
  rw [pick r w (by omega) _ _ _ (fun h => ?_), hw]
  · exact back_of r j s hs hs' i i' hi hi'
  · have e : k = i := Fin.ext (by rw [hi (by omega), hk (by omega)])
    rw [e]

/-- The convolution over the block. -/
theorem pay7_row {v : FVec Ideal S512x1024 .bf16} {x4 : Vec Ideal S1x1024x5632 .bf16} {xs : Vec Ideal S8x5632 .f32}
    {w2 b w1 w0 : Vec Ideal S1x5632 .f32}
    (hu : ∀ r j, k0_pay6 v x4 (ix2 r j) = D.u (row t r) j) (hs : ∀ r j, xs (ix2 r j) = tail D t r j)
    (h2 : ∀ j, w2 (ix2 0 j) = D.cw 2 j) (hb : ∀ j, b (ix2 0 j) = D.cb j) (h1 : ∀ j, w1 (ix2 0 j) = D.cw 1 j)
    (h0 : ∀ j, w0 (ix2 0 j) = D.cw 0 j) (r : Fin 512) (j : Fin 5632) :
    k0_pay7 v x4 xs w2 b w1 w0 (ix2 r j) = D.cvK (row t r) j := by
  pointwise [k0_pay7]
  have hr := r.isLt
  simp only [hu, hs, h2, hb, h1, h0]
  unfold Data.cvK
  refine congrArg₂ (· + ·) (congrArg₂ (· + ·) rfl (congrArg (D.cw 1 j * ·) ?_)) (congrArg (D.cw 0 j * ·) ?_)
  · exact pick_back r j 1 1#32 rfl (by decide) (by decide) ⟨(r.val + 8 - 1) % 8, by omega⟩ ⟨(r.val + 512 - 1) % 512, by omega⟩
      ⟨(8 + (r.val - 8) + 512 - 1) % 512, by omega⟩ (fun h => by dsimp only; omega) (fun h => by dsimp only; omega) (fun h => by dsimp only; omega)
  · exact pick_back r j 2 2#32 rfl (by decide) (by decide) ⟨(r.val + 8 - 2) % 8, by omega⟩ ⟨(r.val + 512 - 2) % 512, by omega⟩
      ⟨(8 + (r.val - 8) + 512 - 2) % 512, by omega⟩ (fun h => by dsimp only; omega) (fun h => by dsimp only; omega) (fun h => by dsimp only; omega)

/-- What the block leaves for the next. -/
theorem pay8_row {v : FVec Ideal S512x1024 .bf16} {x4 : Vec Ideal S1x1024x5632 .bf16}
    (hu : ∀ r j, k0_pay6 v x4 (ix2 r j) = D.u (row t r) j) (r : Fin 8) (j : Fin 5632) :
    k0_pay1 (k0_pay8 v x4) (ix2 r j) = D.u (row t ⟨504 + r.val, by omega⟩) j := by
  pointwise [k0_pay1, k0_pay8]
  rw [hu]

/-- The block's result. -/
theorem pay2_row {y : FVec Ideal S512x1024 .f32} {c : FVec Ideal S512x5632 .f32} {x7 : Vec Ideal S1x2816x1024 .bf16}
    (hy : ∀ r d, y (ix2 r d) = D.x (row t r) d) (hc : ∀ r j, c (ix2 r j) = D.cvK (row t r) j)
    (hd : ∀ j d, x7 (ix3 0 j d) = D.down j d) (r : Fin 512) (d : Fin 1024) :
    k0_pay2 y c x7 (ix2 r d) = D.outK (row t r) d := by
  pointwise [k0_pay2]
  simp only [hy, hc, hd]
  rfl

end Cert.Proof.Ffn

end
-- ==== Proof.Ffn.Kernel.lean ====
/-
  What the feed-forward kernel leaves in its result array: row by row, `Ffn.Data.outK` of its arguments.
-/
module

public import proofs.«01_k».proof.Proof.Ffn.Block
public import proofs.«01_k».proof.Proof.Gen.FfnIdeal.Value
public import Idealize.ShloMosaic.Lib.StableHlo.ReadAt

@[expose] public section

set_option maxRecDepth 16384

noncomputable section

namespace Cert.Proof.Ffn

open Idealize.ShloMosaic Idealize.ShloMosaic.TcCoe Idealize.SL.Sem
open Cert.FfnIdeal Cert.FfnIdeal.Gen Cert.FfnIdeal.Value

/-! ## A grid point's stores -/

theorem hz2 : (![0, 0] : Fin 2 → Nat) = fun _ => 0 := funext fun a => by fin_cases a <;> rfl
theorem hz3 : (![0, 0, 0] : Fin 3 → Nat) = fun _ => 0 := funext fun a => by fin_cases a <;> rfl

section Stores

variable (c : Dev nD) (i : grid0.Coords) (a1 : Memref sig .tc .vmem S512x1024 .bf16) (h1 : a1.IsWhole)
  (a2 : Memref sig .tc .vmem S1024x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S1x1024x5632 .bf16) (h5 : a5.IsWhole)
  (a6 : Memref sig .tc .vmem S3x5632 .f32) (h6 : a6.IsWhole) (a7 : Memref sig .tc .vmem S1x5632 .f32) (h7 : a7.IsWhole)
  (a8 : Memref sig .tc .vmem S1x2816x1024 .bf16) (h8 : a8.IsWhole) (a9 : Memref sig .tc .vmem S512x1024 .f32) (h9 : a9.IsWhole)
  (a10 : Memref sig .tc .vmem S8x5632 .f32) (h10 : a10.IsWhole)
  (x0 : Vec Ideal S512x1024 .bf16) (x1 : Vec Ideal S1024x1024 .bf16) (x2 : Vec Ideal S512x1024 .f32) (x3 : Vec Ideal S1x1024 .f32)
  (x4 : Vec Ideal S1x1024x5632 .bf16) (x5 : Vec Ideal S3x5632 .f32) (x6 : Vec Ideal S1x5632 .f32) (x7 : Vec Ideal S1x2816x1024 .bf16)
  (xs : Vec Ideal S8x5632 .f32)

/-- The block's result over the carried rows `xs`. -/
abbrev outOf : Vec Ideal S512x1024 .f32 :=
  k0_pay2 (k0_pay4 x2 x0 x1) (k0_pay7 (k0_pay5 x2 x0 x1 x3) x4 xs (View.ld x5 (Rect.unit ![2, 0] ![1, 5632] inb_S3x5632_S1x5632_2_0)) x6
    (View.ld x5 (Rect.unit ![1, 0] ![1, 5632] inb_S3x5632_S1x5632_1_0)) (View.ld x5 (Rect.unit ![0, 0] ![1, 5632] inb_S3x5632_S1x5632_0_0))) x7

/-- What a block leaves for the next. -/
abbrev tailOf : Vec Ideal S8x5632 .f32 := k0_pay1 (k0_pay8 (k0_pay5 x2 x0 x1 x3) x4)

theorem out_A (hc : cond0_0 i) :
    out0_A_8 c i a1 h1 a2 h2 a3 h3 a4 h4 a5 h5 a6 h6 a7 h7 a8 h8 a9 h9 a10 h10 hc x0 x1 x2 x3 x4 x5 x6 x7
      = outOf x0 x1 x2 x3 x4 x5 x6 x7 (k0_pay3 (F := Ideal)) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_unit_zero hz2]
  simp only [View.readCov_unit_zero (S := S8x5632) _ hz2, View.readAt_eq_ld, h1.read_unread, h2.read_unread, h3.read_unread, h4.read_unread,
    h5.read_unread, h6.read_unread, h7.read_unread, h8.read_unread, View.ld_unit_zero (S := S512x1024) hz2, View.ld_unit_zero (S := S1024x1024) hz2,
    View.ld_unit_zero (S := S1x1024) hz2, View.ld_unit_zero (S := S1x5632) hz2, View.ld_unit_zero (S := S1x1024x5632) hz3,
    View.ld_unit_zero (S := S1x2816x1024) hz3]

theorem out_B (hc : ¬cond0_0 i) :
    out0_B_8 c i a1 h1 a2 h2 a3 h3 a4 h4 a5 h5 a6 h6 a7 h7 a8 h8 a9 h9 a10 h10 hc x0 x1 x2 x3 x4 x5 x6 x7 xs
      = outOf x0 x1 x2 x3 x4 x5 x6 x7 xs := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 x7 xs)]
  unfold kernelRun0_B
  dsimp only
  sl_unfold_words
  rw [View.canon_unit_zero hz2]
  simp only [View.readAt_eq_ld, h1.read_unread, h2.read_unread, h3.read_unread, h4.read_unread,
    h5.read_unread, h6.read_unread, h7.read_unread, h8.read_unread, h10.read_unread, View.ld_unit_zero (S := S512x1024) hz2, View.ld_unit_zero (S := S1024x1024) hz2,
    View.ld_unit_zero (S := S1x1024) hz2, View.ld_unit_zero (S := S8x5632) hz2, View.ld_unit_zero (S := S1x5632) hz2, View.ld_unit_zero (S := S1x1024x5632) hz3,
    View.ld_unit_zero (S := S1x2816x1024) hz3]

theorem tail_A (hc : cond0_0 i) :
    sout0_A_0 c i a1 h1 a2 h2 a3 h3 a4 h4 a5 h5 a6 h6 a7 h7 a8 h8 a9 h9 a10 h10 hc x0 x1 x2 x3 x4 x5 x6 x7
      = tailOf x0 x1 x2 x3 x4 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_cons_unit_zero hz2]
  simp only [View.readAt_eq_ld, h1.read_unread, h2.read_unread, h3.read_unread, h4.read_unread,
    h5.read_unread, View.ld_unit_zero (S := S512x1024) hz2, View.ld_unit_zero (S := S1024x1024) hz2,
    View.ld_unit_zero (S := S1x1024) hz2, View.ld_unit_zero (S := S1x1024x5632) hz3]

theorem tail_B (hc : ¬cond0_0 i) :
    sout0_B_0 c i a1 h1 a2 h2 a3 h3 a4 h4 a5 h5 a6 h6 a7 h7 a8 h8 a9 h9 a10 h10 hc x0 x1 x2 x3 x4 x5 x6 x7 xs
      = tailOf x0 x1 x2 x3 x4 := by
  unfold sout0_B_0
  rw [View.read_writes_eq_canon _ _ _ (scover0_B_0 c i a1 h1 a2 h2 a3 h3 a4 h4 a5 h5 a6 h6 a7 h7 a8 h8 a9 h9 a10 h10 hc x0 x1 x2 x3 x4 x5 x6 x7 xs)]
  unfold kernelRun0_B
  dsimp only
  sl_unfold_words
  rw [View.canon_unit_zero hz2]
  simp only [View.readAt_eq_ld, h1.read_unread, h2.read_unread, h3.read_unread, h4.read_unread,
    h5.read_unread, View.ld_unit_zero (S := S512x1024) hz2, View.ld_unit_zero (S := S1024x1024) hz2,
    View.ld_unit_zero (S := S1x1024) hz2, View.ld_unit_zero (S := S1x1024x5632) hz3]

end Stores

/-! ## The staged blocks -/

variable (m : (ℓ : Loc nD τ sig) → Buf (Elt Ideal) ℓ) (c : Dev nD)

/-- The operands of layer 1's feed-forward part, out of the call's arguments. -/
def layer1 : Data 1024 where
  mix n k := m ((c : Thread nD τ).loc main_arg0) (ix2 n k)
  wmix k d := m ((c : Thread nD τ).loc main_arg1) (ix3 0 k d)
  h n d := m ((c : Thread nD τ).loc main_arg2) (ix2 n d)
  g d := m ((c : Thread nD τ).loc main_arg3) (ix2 1 d)
  up d j := m ((c : Thread nD τ).loc main_arg4) (ix3 1 d j)
  cw s j := m ((c : Thread nD τ).loc main_arg5) (ix3 1 s j)
  cb j := m ((c : Thread nD τ).loc main_arg6) (ix2 1 j)
  down j d := m ((c : Thread nD τ).loc main_arg7) (ix3 1 j d)

/-- A grid point as a block number. -/
abbrev pt (t : Fin cfg0.N) : Fin 64 := ⟨t.val, lt_of_lt_of_eq t.isLt N_0⟩

theorem blk0 (t : Fin cfg0.N) (r : Fin 512) (k : Fin 1024) : iblk m c 0 t (ix2 r k) = (layer1 m c).mix (row (pt t) r) k := by
  have hi := (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; omega
  | ⟨1, _⟩ => show win0_0.index t 1 * 1024 + 1 * k.val = k.val; omega

theorem blk1 (t : Fin cfg0.N) (k : Fin 1024) (d : Fin 1024) : iblk m c 1 t (ix2 k d) = (layer1 m c).wmix k d := by
  have hi := (by decide +kernel : ∀ t : Fin grid0.N, win0_1.index t 0 = 0 ∧ win0_1.index t 1 = 0) t
  unfold iblk
  rw [View.read_apply]
  show V m c main_v3 _ = _
  refine (congrArg (V m c main_v3) (funext fun a => Fin.ext ?_ : _ = (ix2 k d : S1024x1024.Idx))).trans ?_
  · match a with
    | ⟨0, _⟩ => show win0_1.index t 0 * 1024 + 1 * k.val = k.val; omega
    | ⟨1, _⟩ => show win0_1.index t 1 * 1024 + 1 * d.val = d.val; omega
  · unfold V
    after_reads_at
    rfl

theorem blk2 (t : Fin cfg0.N) (r : Fin 512) (d : Fin 1024) : iblk m c 2 t (ix2 r d) = (layer1 m c).h (row (pt t) r) d := by
  have hi := (by decide +kernel : ∀ t : Fin grid0.N, win0_2.index t 0 = t.val ∧ win0_2.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = 512 * t.val + r.val; omega
  | ⟨1, _⟩ => show win0_2.index t 1 * 1024 + 1 * d.val = d.val; omega

theorem blk3 (t : Fin cfg0.N) (d : Fin 1024) : iblk m c 3 t (ix2 0 d) = (layer1 m c).g d := by
  have hi := (by decide +kernel : ∀ t : Fin grid0.N, win0_3.index t 0 = 0 ∧ win0_3.index t 1 = 0) t
  unfold iblk
  rw [View.read_apply]
  show V m c main_v10 _ = _
  refine (congrArg (V m c main_v10) (funext fun a => Fin.ext ?_ : _ = (ix2 0 d : S1x1024.Idx))).trans ?_
  · match a with
    | ⟨0, _⟩ => show win0_3.index t 0 * 1 + 1 * 0 = 0; omega
    | ⟨1, _⟩ => show win0_3.index t 1 * 1024 + 1 * d.val = d.val; omega
  · unfold V
    after_reads_at
    rfl

theorem blk4 (t : Fin cfg0.N) (d : Fin 1024) (j : Fin 5632) : iblk m c 4 t (ix3 0 d j) = (layer1 m c).up d j := by
  have hi := (by decide +kernel : ∀ t : Fin grid0.N, win0_4.index t 0 = 1 ∧ win0_4.index t 1 = 0 ∧ win0_4.index t 2 = 0) t
  unfold iblk
  rw [View.read_apply]
  show V m c main_v0 _ = _
  refine (congrArg (V m c main_v0) (funext fun a => Fin.ext ?_ : _ = (ix3 1 d j : S2x1024x5632.Idx))).trans ?_
  · match a with
    | ⟨0, _⟩ => show win0_4.index t 0 * 1 + 1 * 0 = 1; omega
    | ⟨1, _⟩ => show win0_4.index t 1 * 1024 + 1 * d.val = d.val; omega
    | ⟨2, _⟩ => show win0_4.index t 2 * 5632 + 1 * j.val = j.val; omega
  · unfold V
    after_reads_at
    rfl

theorem blk5 (t : Fin cfg0.N) (s : Fin 3) (j : Fin 5632) : iblk m c 5 t (ix2 s j) = (layer1 m c).cw s j := by
  have hi := (by decide +kernel : ∀ t : Fin grid0.N, win0_5.index t 0 = 0 ∧ win0_5.index t 1 = 0) t
  unfold iblk
  rw [View.read_apply]
  show V m c main_v7 _ = _
  refine (congrArg (V m c main_v7) (funext fun a => Fin.ext ?_ : _ = (ix2 s j : S3x5632.Idx))).trans ?_
  · match a with
    | ⟨0, _⟩ => show win0_5.index t 0 * 3 + 1 * s.val = s.val; omega
    | ⟨1, _⟩ => show win0_5.index t 1 * 5632 + 1 * j.val = j.val; omega
  · unfold V
    after_reads_at
    rfl

theorem blk6 (t : Fin cfg0.N) (j : Fin 5632) : iblk m c 6 t (ix2 0 j) = (layer1 m c).cb j := by
  have hi := (by decide +kernel : ∀ t : Fin grid0.N, win0_6.index t 0 = 0 ∧ win0_6.index t 1 = 0) t
  unfold iblk
  rw [View.read_apply]
  show V m c main_v11 _ = _
  refine (congrArg (V m c main_v11) (funext fun a => Fin.ext ?_ : _ = (ix2 0 j : S1x5632.Idx))).trans ?_
  · match a with
    | ⟨0, _⟩ => show win0_6.index t 0 * 1 + 1 * 0 = 0; omega
    | ⟨1, _⟩ => show win0_6.index t 1 * 5632 + 1 * j.val = j.val; omega
  · unfold V
    after_reads_at
    rfl

theorem blk7 (t : Fin cfg0.N) (j : Fin 2816) (d : Fin 1024) : iblk m c 7 t (ix3 0 j d) = (layer1 m c).down j d := by
  have hi := (by decide +kernel : ∀ t : Fin grid0.N, win0_7.index t 0 = 1 ∧ win0_7.index t 1 = 0 ∧ win0_7.index t 2 = 0) t
  unfold iblk
  rw [View.read_apply]
  show V m c main_v1 _ = _
  refine (congrArg (V m c main_v1) (funext fun a => Fin.ext ?_ : _ = (ix3 1 j d : S2x2816x1024.Idx))).trans ?_
  · match a with
    | ⟨0, _⟩ => show win0_7.index t 0 * 1 + 1 * 0 = 1; omega
    | ⟨1, _⟩ => show win0_7.index t 1 * 2816 + 1 * j.val = j.val; omega
    | ⟨2, _⟩ => show win0_7.index t 2 * 1024 + 1 * d.val = d.val; omega
  · unfold V
    after_reads_at
    rfl

/-! ## A grid point's stores, as rows -/

/-- The residual stream's rows. -/
theorem x_row (t : Fin cfg0.N) (r : Fin 512) (d : Fin 1024) :
    k0_pay4 (iblk m c 2 t) (iblk m c 0 t) (iblk m c 1 t) (ix2 r d) = (layer1 m c).x (row (pt t) r) d := by
  pointwise [k0_pay4]
  simp only [blk0, blk1, blk2]
  rfl

/-- The widened rows. -/
theorem u_row (t : Fin cfg0.N) (r : Fin 512) (j : Fin 5632) :
    k0_pay6 (k0_pay5 (iblk m c 2 t) (iblk m c 0 t) (iblk m c 1 t) (iblk m c 3 t)) (iblk m c 4 t) (ix2 r j) = (layer1 m c).u (row (pt t) r) j :=
  pay6_row (pay5_row (x_row m c t) (blk3 m c t)) (blk4 m c t) r j

/-- What a point leaves for the next: its last eight widened rows. -/
theorem left_row (t : Fin cfg0.N) (r : Fin 8) (j : Fin 5632) :
    (outsAt0 m c t.val t.isLt).2 (ix2 r j) = (layer1 m c).u (row (pt t) ⟨504 + r.val, by omega⟩) j := by
  by_cases h0 : t.val % 4 = 0
  · rw [outsAt0_A m c t h0]
    dsimp only
    rw [tail_A]
    exact pay8_row (u_row m c t) r j
  · rw [outsAt0_B m c t h0]
    dsimp only
    rw [tail_B]
    exact pay8_row (u_row m c t) r j

/-- What a point writes, over the rows the point before left. -/
theorem outOf_row (t : Fin cfg0.N) (xs : Vec Ideal S8x5632 .f32) (hs : ∀ r j, xs (ix2 r j) = tail (layer1 m c) (pt t) r j) (r : Fin 512) (d : Fin 1024) :
    outOf (iblk m c 0 t) (iblk m c 1 t) (iblk m c 2 t) (iblk m c 3 t) (iblk m c 4 t) (iblk m c 5 t) (iblk m c 6 t) (iblk m c 7 t) xs (ix2 r d)
      = (layer1 m c).outK (row (pt t) r) d := by
  refine pay2_row (x_row m c t) (pay7_row (u_row m c t) hs (fun j => ?_) (blk6 m c t) (fun j => ?_) (fun j => ?_)) (blk7 m c t) r d
  · exact (congrArg (iblk m c 5 t) (funext fun a => Fin.ext (by match a with | ⟨0, _⟩ => rfl | ⟨1, _⟩ => show 0 + 1 * j.val = j.val; omega) : _ = (ix2 2 j : S3x5632.Idx))).trans (blk5 m c t 2 j)
  · exact (congrArg (iblk m c 5 t) (funext fun a => Fin.ext (by match a with | ⟨0, _⟩ => rfl | ⟨1, _⟩ => show 0 + 1 * j.val = j.val; omega) : _ = (ix2 1 j : S3x5632.Idx))).trans (blk5 m c t 1 j)
  · exact (congrArg (iblk m c 5 t) (funext fun a => Fin.ext (by match a with | ⟨0, _⟩ => rfl | ⟨1, _⟩ => show 0 + 1 * j.val = j.val; omega) : _ = (ix2 0 j : S3x5632.Idx))).trans (blk5 m c t 0 j)

theorem out_row (t : Fin cfg0.N) (r : Fin 512) (d : Fin 1024) :
    (outsAt0 m c t.val t.isLt).1 (ix2 r d) = (layer1 m c).outK (row (pt t) r) d := by
  by_cases h0 : t.val % 4 = 0
  · rw [outsAt0_A m c t h0]
    dsimp only
    rw [out_A]
    refine outOf_row m c t _ (fun r j => ?_) r d
    unfold tail
    rw [if_pos h0]
    pointwise [k0_pay3]
  · rw [outsAt0_B m c t h0]
    dsimp only
    rw [out_B]
    refine outOf_row m c t _ (fun r j => ?_) r d
    unfold tail
    rw [if_neg h0]
    refine (left_row m c ⟨t.val - 1, Nat.lt_of_le_of_lt (Nat.sub_le _ _) t.isLt⟩ r j).trans (congrArg (fun n => (layer1 m c).u n j) (Fin.ext ?_))
    show 512 * (t.val - 1) + (504 + r.val) = 512 * (t.val - 1) + 504 + r.val
    omega

/-! ## The result array -/

theorem result_row (n : Fin 32768) (d : Fin 1024) : G8 m c (ix2 n d) = (layer1 m c).outK n d := by
  have hn := n.isLt
  have hd := d.isLt
  have hN : cfg0.N = 64 := N_0
  have e : pt8Of (ix2 n d) = n.val / 512 := by
    show 1 * (n.val / 512 - 0) + 1 * (d.val / 1024 - 0) = n.val / 512
    omega
  unfold G8
  rw [dif_pos (by rw [e]; omega)]
  refine (congrFun (congrArg Prod.fst (outsAt0_sweep m c (pt8Of (ix2 n d)) (by rw [e]; omega)).symm) (loc8Of (ix2 n d))).trans ?_
  have ho := out_row m c ⟨pt8Of (ix2 n d), by rw [e]; omega⟩ ⟨n.val % 512, by omega⟩ d
  refine (congrArg _ (funext fun a => Fin.ext ?_)).trans (ho.trans (congrArg (fun k => (layer1 m c).outK k d) (Fin.ext ?_)))
  · match a with
    | ⟨0, _⟩ => rfl
    | ⟨1, _⟩ => show d.val % 1024 = d.val; omega
  · show 512 * pt8Of (ix2 n d) + n.val % 512 = n.val
    rw [e]
    omega

end Cert.Proof.Ffn

end
-- ==== Proof.Common.Finite.lean ====
/-
  A precondition `all(|a| < ∞)`, read: every element of `a` is real.
-/
module

public import proofs.«01_k».proof.Proof.Common.Reals
public import Idealize.ShloMosaic.Lib.ReduceAll
public import Idealize.ShloMosaic.Lib.Pointwise

@[expose] public section

noncomputable section

namespace Cert.Proof.Reals

open Idealize.ShloMosaic

instance : Subsingleton (Shape.Idx ⟨0, ![]⟩) := ⟨fun _ _ => funext fun a => a.elim0⟩

/-- The comparison with infinity, at an element. -/
theorem isReal_of_olt {x : EReal} (h : FloatOps.cmpf (F := Ideal) (φ := .f32) .olt (FloatOps.absf (F := Ideal) (φ := .f32) x) (Ideal.ofBits .f32 0x7F800000#32) = 1#1) : IsReal x := by
  rw [ofBits_inf] at h
  refine isReal_of_abs_lt_top ?_
  by_contra hn
  have : BitVec.ofBool (decide (max x (-x) < ⊤)) = 1#1 := h
  rw [decide_eq_false hn] at this
  exact absurd this (by decide)

/-- The whole array's. -/
theorem all_real {s : Shape} {axes : List (Fin s.rank)} (a : FVec Ideal s .f32) (b : Shape.BroadcastsInDim ⟨0, ![]⟩ s (![] : Fin 0 → Fin s.rank))
    (hr : s.ReducesTo axes ⟨0, ![]⟩) (hu : 0 < Shape.numel ⟨0, ![]⟩) (j : Shape.Idx ⟨0, ![]⟩)
    (e : Host.reduce IntOp.andi (cmpf .olt (Host.absf a) (broadcastInDim s ![] b (constant ⟨0, ![]⟩ .f32 0x7F800000#32))) (constantI ⟨0, ![]⟩ 1 1#1) hr hu j = 1#1)
    (i : s.Idx) : IsReal (a i) :=
  isReal_of_olt (Host.reduce_andi_all _ _ _ _ j e i)

end Cert.Proof.Reals

end
-- ==== Proof.Ffn.Pre.lean ====
/-
  The feed-forward call's precondition, read.
-/
module

public import proofs.«01_k».proof.Proof.Ffn.Kernel
public import proofs.«01_k».proof.Proof.Common.Finite
public import proofs.«01_k».proof.Defs
public import proofs.«01_k».proof.Proof.Gen.Pre_finite2

@[expose] public section

set_option maxRecDepth 16384

noncomputable section

namespace Cert.Proof.Ffn

open Idealize.ShloMosaic Idealize.ShloMosaic.TcCoe Idealize.SL.Sem
open Cert.FfnIdeal Cert.Proof.Reals

/-- Under the precondition the activation's argument is real. -/
theorem finite_of_pre (m : (ℓ : Loc nD τ sig) → Buf (Elt Ideal) ℓ) (hpre : Pre_FfnIdeal_finite2 m) (c : Dev nD) : (layer1 m c).Finite := by
  have h := congrFun (hpre c) (fun a => a.elim0)
  dsimp only [Cert.Pre_finite2.fn, Cert.Pre_finite2.fn_part1, Cert.Pre_finite2.fn_part2] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact {
    mix := fun n k => all_real _ _ _ _ _ h0 (ix2 n k)
    wmix := fun k d => all_real _ _ _ _ _ h1 (ix3 0 k d)
    h := fun n d => all_real _ _ _ _ _ h2 (ix2 n d)
    g := fun d => all_real _ _ _ _ _ h3 (ix2 1 d)
    up := fun d j => all_real _ _ _ _ _ h4 (ix3 1 d j)
    cw := fun s j => all_real _ _ _ _ _ h5 (ix3 1 s j)
    cb := fun j => all_real _ _ _ _ _ h6 (ix2 1 j) }

end Cert.Proof.Ffn

end
-- ==== Proof.Ffn.Ref.lean ====
/-
  What the feed-forward reference computes, position by position: `Ffn.Data.out` of its arguments.
-/
module

public import proofs.«01_k».proof.Proof.Ffn.Model
public import proofs.«01_k».proof.Proof.Gen.FfnRefIdeal.Read
public import Idealize.ShloMosaic.Lib.Pointwise

@[expose] public section

set_option maxRecDepth 16384

noncomputable section

namespace Cert.Proof.Ffn

open Idealize.ShloMosaic
open Cert.FfnRefIdeal Cert.FfnRefIdeal.Gen Cert.FfnRefIdeal.Read

variable (x0 : (⟨S32768x1024, .bf16⟩ : BufTy).Contents (Elt Ideal)) (x1 : (⟨S1x1024x1024, .f32⟩ : BufTy).Contents (Elt Ideal))
  (x2 : (⟨S32768x1024, .f32⟩ : BufTy).Contents (Elt Ideal)) (x3 : (⟨S2x1024, .f32⟩ : BufTy).Contents (Elt Ideal))
  (x4 : (⟨S2x1024x5632, .f32⟩ : BufTy).Contents (Elt Ideal)) (x5 : (⟨S2x3x5632, .f32⟩ : BufTy).Contents (Elt Ideal))
  (x6 : (⟨S2x5632, .f32⟩ : BufTy).Contents (Elt Ideal)) (x7 : (⟨S2x2816x1024, .f32⟩ : BufTy).Contents (Elt Ideal))

/-- The operands of layer 1's feed-forward part, out of the reference's arguments. -/
def refLayer1 : Data 1024 where
  mix n k := x0 (ix2 n k)
  wmix k d := x1 (ix3 0 k d)
  h n d := x2 (ix2 n d)
  g d := x3 (ix2 1 d)
  up d j := x4 (ix3 1 d j)
  cw s j := x5 (ix3 1 s j)
  cb j := x6 (ix2 1 j)
  down j d := x7 (ix3 1 j d)

/-- Step `s` of sequence `b`. -/
abbrev step (b : Fin 16) (s : Fin 2048) : Fin 32768 := ⟨b.val * 2048 + s.val, by omega⟩

theorem ref_x (b : Fin 16) (s : Fin 2048) (d : Fin 1024) : val_main_v5 (F := Ideal) x0 x1 x2 (ix3 b s d) = Data.x (refLayer1 x0 x1 x2 x3 x4 x5 x6 x7) (step b s) d := by
  pointwise [val_main_v5, val_main_v4, val_main_v3, val_main_v2, val_main_v1, val_main_v0]
  rfl

theorem ref_xn (b : Fin 16) (s : Fin 2048) (d : Fin 1024) : val_main_v28 (F := Ideal) x0 x1 x2 x3 (ix3 b s d) = Data.xn (refLayer1 x0 x1 x2 x3 x4 x5 x6 x7) (step b s) d := by
  pointwise [val_main_v28, val_main_v27, val_main_v26, val_main_v25, val_main_v24, val_main_v23, val_main_v22, val_main_v21, val_main_v20, val_main_v19,
    val_main_v18, val_main_v17, val_main_v16, val_main_cst, val_main_cst_0, val_main_cst_1, val_main_v7, val_main_v6]
  simp only [ref_x x0 x1 x2 x3 x4 x5 x6 x7]
  rfl

theorem ref_u (b : Fin 16) (s : Fin 2048) (j : Fin 5632) : val_main_v29 (F := Ideal) x0 x1 x2 x3 x4 (ix3 b s j) = Data.u (refLayer1 x0 x1 x2 x3 x4 x5 x6 x7) (step b s) j := by
  pointwise [val_main_v29, val_main_v9, val_main_v8]
  simp only [ref_xn x0 x1 x2 x3 x4 x5 x6 x7]
  rfl

/-- The padded row `k` steps back. -/
theorem back_ref {dm : ℕ} (A : Data dm) (b : Fin 16) (s : Fin 2048) (j : Fin 5632) (k : ℕ) (s' : Fin 2048) (p : Prop) [Decidable p] (hp : p ↔ k ≤ s.val)
    (hk : 0 < k) (hs : k ≤ s.val → s'.val = s.val - k) (z : EReal) (hz : z = 0) :
    (if _h : p then A.u (step b s') j else z) = A.back (step b s) k j := by
  have hb := b.isLt
  have hs2 := s.isLt
  unfold Data.back
  by_cases h : k ≤ s.val
  · rw [dif_pos (hp.2 h), if_neg (by show ¬(b.val * 2048 + s.val) % 2048 < k; omega)]
    refine congrArg (fun n => A.u n j) (Fin.ext ?_)
    have := hs h
    show b.val * 2048 + s'.val = b.val * 2048 + s.val - k
    omega
  · rw [dif_neg (fun h' => h (hp.1 h')), if_pos (by show (b.val * 2048 + s.val) % 2048 < k; omega), hz]

/-- The padding's zero. -/
theorem sitofp_zero : FloatOps.sitofp (F := Ideal) FTy.f32 (0#32 : BitVec 32) = (0 : EReal) := by
  show (((0#32 : BitVec 32).toInt : ℝ) : EReal) = 0
  simp

theorem ref_cv (b : Fin 16) (s : Fin 2048) (j : Fin 5632) : val_main_v53 (F := Ideal) x0 x1 x2 x3 x4 x5 x6 (ix3 b s j) = Data.cv (refLayer1 x0 x1 x2 x3 x4 x5 x6 x7) (step b s) j := by
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34,
    val_main_v33, val_main_v32, val_main_v31, val_main_v30, val_main_call0_v0, val_main_c, val_main_v13, val_main_v12, val_main_v11, val_main_v10]
  simp only [ref_u x0 x1 x2 x3 x4 x5 x6 x7]
  unfold Data.cv
  refine congrArg₂ (· + ·) (congrArg₂ (· + ·) (congrArg₂ (· + ·) (congrArg (· * x5 (ix3 1 0 j)) ?_) (congrArg (· * x5 (ix3 1 1 j)) ?_)) rfl) rfl
  · exact back_ref _ b s j 2 ⟨s.val - 2, by omega⟩ (2 ≤ s.val ∧ s.val - 2 < 2048) (by omega) (by omega) (fun _ => rfl) _ sitofp_zero
  · exact back_ref _ b s j 1 ⟨1 + s.val - 2, by omega⟩ (2 ≤ 1 + s.val ∧ 1 + s.val - 2 < 2048) (by omega) (by omega) (fun h => by dsimp only; omega) _ sitofp_zero

theorem ref_out (b : Fin 16) (s : Fin 2048) (d : Fin 1024) : val_main_v59 (F := Ideal) x0 x1 x2 x3 x4 x5 x6 x7 (ix3 b s d) = Data.out (refLayer1 x0 x1 x2 x3 x4 x5 x6 x7) (step b s) d := by
  pointwise [val_main_v59, val_main_v58, val_main_v57, val_main_v56, val_main_v55, val_main_v54, val_main_v15, val_main_v14]
  simp only [ref_x x0 x1 x2 x3 x4 x5 x6 x7, ref_cv x0 x1 x2 x3 x4 x5 x6 x7]
  refine congrArg₂ (· + ·) rfl (Finset.sum_congr rfl fun k _ => ?_)
  refine congrArg₂ (· * ·) (congrArg₂ (· * ·) (congrArg₂ (· * ·) rfl ?_) rfl) rfl
  pointwise [val_main_call1_v5, val_main_call1_v4, val_main_call1_v3, val_main_call1_v2, val_main_call1_v1, val_main_call1_v0, val_main_call1_cst,
    val_main_call1_cst_0, val_main_v54]
  simp only [ref_cv x0 x1 x2 x3 x4 x5 x6 x7]
  rfl

end Cert.Proof.Ffn

end
-- ==== Proof.Ffn.Claim.lean ====
/-
  The feed-forward call's value claim: on real arguments the kernel's result array is the reference's.
-/
module

public import proofs.«01_k».proof.Proof.Ffn.Pre
public import proofs.«01_k».proof.Proof.Ffn.Ref

@[expose] public section

set_option maxRecDepth 16384

noncomputable section

namespace Cert.Proof.Ffn

open Idealize.ShloMosaic Idealize.ShloMosaic.TcCoe Idealize.SL.Sem

section

open Cert.FfnRefIdeal Cert.FfnRefIdeal.Read

/-- The reference's result array. -/
theorem ref_result (m : (ℓ : Loc nD τ sig) → Buf (Elt Ideal) ℓ) (c : Dev nD) (n : Fin 32768) (d : Fin 1024) :
    Cert.FfnRefIdeal.Value.res_main_v60 m c (ix2 n d)
      = (refLayer1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))).out n d := by
  have hn := n.isLt
  rw [val_main_v60_eq]
  pointwise [val_main_v60]
  refine (ref_out _ _ _ _ _ _ _ _ ⟨n.val / 2048, by omega⟩ ⟨n.val % 2048, by omega⟩ d).trans (congrArg (fun k => Data.out _ k d) (Fin.ext ?_))
  show n.val / 2048 * 2048 + n.val % 2048 = n.val
  omega

end

theorem algebraic : algebraic_FfnIdeal_FfnRefIdeal_pre_finite2 := by
  intro m g m' g' hpre hm
  refine ⟨fun c => Cert.FfnIdeal.Value.G8 m c, Cert.FfnIdeal.Value.run m g, ?_⟩
  refine (θ_run _ _ _).mono (fun r h c => ⟨(h c).1.trans ?_, (h c).2⟩) (Cert.FfnRefIdeal.Value.run m' g')
  funext i
  obtain ⟨e0, e1, e2, e3, e4, e5, e6, e7⟩ := hm c
  idx_vars i
  refine (ref_result m' c _ _).trans (Eq.trans ?_ (result_row m c _ _).symm)
  rw [(finite_of_pre m hpre c).outK_eq, e0, e1, e2, e3, e4, e5, e6, e7]
  rfl

end Cert.Proof.Ffn

end
-- ==== Proof.FfnA.Kernel.lean ====
/-
  What the feed-forward kernel leaves in its result array: row by row, `Ffn.Data.outK` of its arguments.
-/
module

public import proofs.«01_k».proof.Proof.Ffn.Block
public import proofs.«01_k».proof.Proof.Gen.FfnAIdeal.Value
public import Idealize.ShloMosaic.Lib.StableHlo.ReadAt

@[expose] public section

set_option maxRecDepth 16384

noncomputable section

namespace Cert.Proof.FfnA

open Idealize.ShloMosaic Idealize.ShloMosaic.TcCoe Idealize.SL.Sem Cert.Proof.Ffn
open Cert.FfnAIdeal Cert.FfnAIdeal.Gen Cert.FfnAIdeal.Value

/-! ## A grid point's stores -/

theorem hz2 : (![0, 0] : Fin 2 → Nat) = fun _ => 0 := funext fun a => by fin_cases a <;> rfl
theorem hz3 : (![0, 0, 0] : Fin 3 → Nat) = fun _ => 0 := funext fun a => by fin_cases a <;> rfl

section Stores

variable (c : Dev nD) (i : grid0.Coords) (a1 : Memref sig .tc .vmem S512x2048 .bf16) (h1 : a1.IsWhole)
  (a2 : Memref sig .tc .vmem S2048x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S1x1024x5632 .bf16) (h5 : a5.IsWhole)
  (a6 : Memref sig .tc .vmem S3x5632 .f32) (h6 : a6.IsWhole) (a7 : Memref sig .tc .vmem S1x5632 .f32) (h7 : a7.IsWhole)
  (a8 : Memref sig .tc .vmem S1x2816x1024 .bf16) (h8 : a8.IsWhole) (a9 : Memref sig .tc .vmem S512x1024 .f32) (h9 : a9.IsWhole)
  (a10 : Memref sig .tc .vmem S8x5632 .f32) (h10 : a10.IsWhole)
  (x0 : Vec Ideal S512x2048 .bf16) (x1 : Vec Ideal S2048x1024 .bf16) (x2 : Vec Ideal S512x1024 .f32) (x3 : Vec Ideal S1x1024 .f32)
  (x4 : Vec Ideal S1x1024x5632 .bf16) (x5 : Vec Ideal S3x5632 .f32) (x6 : Vec Ideal S1x5632 .f32) (x7 : Vec Ideal S1x2816x1024 .bf16)
  (xs : Vec Ideal S8x5632 .f32)

/-- The block's result over the carried rows `xs`. -/
abbrev outOf : Vec Ideal S512x1024 .f32 :=
  k0_pay2 (k0_pay4 x2 x0 x1) (k0_pay7 (k0_pay5 x2 x0 x1 x3) x4 xs (View.ld x5 (Rect.unit ![2, 0] ![1, 5632] inb_S3x5632_S1x5632_2_0)) x6
    (View.ld x5 (Rect.unit ![1, 0] ![1, 5632] inb_S3x5632_S1x5632_1_0)) (View.ld x5 (Rect.unit ![0, 0] ![1, 5632] inb_S3x5632_S1x5632_0_0))) x7

/-- What a block leaves for the next. -/
abbrev tailOf : Vec Ideal S8x5632 .f32 := k0_pay1 (k0_pay8 (k0_pay5 x2 x0 x1 x3) x4)

theorem out_A (hc : cond0_0 i) :
    out0_A_8 c i a1 h1 a2 h2 a3 h3 a4 h4 a5 h5 a6 h6 a7 h7 a8 h8 a9 h9 a10 h10 hc x0 x1 x2 x3 x4 x5 x6 x7
      = outOf x0 x1 x2 x3 x4 x5 x6 x7 (k0_pay3 (F := Ideal)) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_unit_zero hz2]
  simp only [View.readCov_unit_zero (S := S8x5632) _ hz2, View.readAt_eq_ld, h1.read_unread, h2.read_unread, h3.read_unread, h4.read_unread,
    h5.read_unread, h6.read_unread, h7.read_unread, h8.read_unread, View.ld_unit_zero (S := S512x1024) hz2, View.ld_unit_zero (S := S512x2048) hz2, View.ld_unit_zero (S := S2048x1024) hz2,
    View.ld_unit_zero (S := S1x1024) hz2, View.ld_unit_zero (S := S1x5632) hz2, View.ld_unit_zero (S := S1x1024x5632) hz3,
    View.ld_unit_zero (S := S1x2816x1024) hz3]

theorem out_B (hc : ¬cond0_0 i) :
    out0_B_8 c i a1 h1 a2 h2 a3 h3 a4 h4 a5 h5 a6 h6 a7 h7 a8 h8 a9 h9 a10 h10 hc x0 x1 x2 x3 x4 x5 x6 x7 xs
      = outOf x0 x1 x2 x3 x4 x5 x6 x7 xs := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 x7 xs)]
  unfold kernelRun0_B
  dsimp only
  sl_unfold_words
  rw [View.canon_unit_zero hz2]
  simp only [View.readAt_eq_ld, h1.read_unread, h2.read_unread, h3.read_unread, h4.read_unread,
    h5.read_unread, h6.read_unread, h7.read_unread, h8.read_unread, h10.read_unread, View.ld_unit_zero (S := S512x1024) hz2, View.ld_unit_zero (S := S512x2048) hz2, View.ld_unit_zero (S := S2048x1024) hz2,
    View.ld_unit_zero (S := S1x1024) hz2, View.ld_unit_zero (S := S8x5632) hz2, View.ld_unit_zero (S := S1x5632) hz2, View.ld_unit_zero (S := S1x1024x5632) hz3,
    View.ld_unit_zero (S := S1x2816x1024) hz3]

theorem tail_A (hc : cond0_0 i) :
    sout0_A_0 c i a1 h1 a2 h2 a3 h3 a4 h4 a5 h5 a6 h6 a7 h7 a8 h8 a9 h9 a10 h10 hc x0 x1 x2 x3 x4 x5 x6 x7
      = tailOf x0 x1 x2 x3 x4 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_cons_unit_zero hz2]
  simp only [View.readAt_eq_ld, h1.read_unread, h2.read_unread, h3.read_unread, h4.read_unread,
    h5.read_unread, View.ld_unit_zero (S := S512x1024) hz2, View.ld_unit_zero (S := S512x2048) hz2, View.ld_unit_zero (S := S2048x1024) hz2,
    View.ld_unit_zero (S := S1x1024) hz2, View.ld_unit_zero (S := S1x1024x5632) hz3]

theorem tail_B (hc : ¬cond0_0 i) :
    sout0_B_0 c i a1 h1 a2 h2 a3 h3 a4 h4 a5 h5 a6 h6 a7 h7 a8 h8 a9 h9 a10 h10 hc x0 x1 x2 x3 x4 x5 x6 x7 xs
      = tailOf x0 x1 x2 x3 x4 := by
  unfold sout0_B_0
  rw [View.read_writes_eq_canon _ _ _ (scover0_B_0 c i a1 h1 a2 h2 a3 h3 a4 h4 a5 h5 a6 h6 a7 h7 a8 h8 a9 h9 a10 h10 hc x0 x1 x2 x3 x4 x5 x6 x7 xs)]
  unfold kernelRun0_B
  dsimp only
  sl_unfold_words
  rw [View.canon_unit_zero hz2]
  simp only [View.readAt_eq_ld, h1.read_unread, h2.read_unread, h3.read_unread, h4.read_unread,
    h5.read_unread, View.ld_unit_zero (S := S512x1024) hz2, View.ld_unit_zero (S := S512x2048) hz2, View.ld_unit_zero (S := S2048x1024) hz2,
    View.ld_unit_zero (S := S1x1024) hz2, View.ld_unit_zero (S := S1x1024x5632) hz3]

end Stores

/-! ## The staged blocks -/

variable (m : (ℓ : Loc nD τ sig) → Buf (Elt Ideal) ℓ) (c : Dev nD)

/-- The operands of layer 0's feed-forward part, out of the call's arguments. -/
def layer0 : Data 2048 where
  mix n k := m ((c : Thread nD τ).loc main_arg0) (ix2 n k)
  wmix k d := m ((c : Thread nD τ).loc main_arg1) (ix3 0 k d)
  h n d := m ((c : Thread nD τ).loc main_arg2) (ix2 n d)
  g d := m ((c : Thread nD τ).loc main_arg3) (ix2 0 d)
  up d j := m ((c : Thread nD τ).loc main_arg4) (ix3 0 d j)
  cw s j := m ((c : Thread nD τ).loc main_arg5) (ix3 0 s j)
  cb j := m ((c : Thread nD τ).loc main_arg6) (ix2 0 j)
  down j d := m ((c : Thread nD τ).loc main_arg7) (ix3 0 j d)

/-- A grid point as a block number. -/
abbrev pt (t : Fin cfg0.N) : Fin 64 := ⟨t.val, lt_of_lt_of_eq t.isLt N_0⟩

theorem blk0 (t : Fin cfg0.N) (r : Fin 512) (k : Fin 2048) : iblk m c 0 t (ix2 r k) = (layer0 m c).mix (row (pt t) r) k := by
  have hi := (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; omega
  | ⟨1, _⟩ => show win0_0.index t 1 * 2048 + 1 * k.val = k.val; omega

theorem blk1 (t : Fin cfg0.N) (k : Fin 2048) (d : Fin 1024) : iblk m c 1 t (ix2 k d) = (layer0 m c).wmix k d := by
  have hi := (by decide +kernel : ∀ t : Fin grid0.N, win0_1.index t 0 = 0 ∧ win0_1.index t 1 = 0) t
  unfold iblk
  rw [View.read_apply]
  show V m c main_v3 _ = _
  refine (congrArg (V m c main_v3) (funext fun a => Fin.ext ?_ : _ = (ix2 k d : S2048x1024.Idx))).trans ?_
  · match a with
    | ⟨0, _⟩ => show win0_1.index t 0 * 2048 + 1 * k.val = k.val; omega
    | ⟨1, _⟩ => show win0_1.index t 1 * 1024 + 1 * d.val = d.val; omega
  · unfold V
    after_reads_at
    rfl

theorem blk2 (t : Fin cfg0.N) (r : Fin 512) (d : Fin 1024) : iblk m c 2 t (ix2 r d) = (layer0 m c).h (row (pt t) r) d := by
  have hi := (by decide +kernel : ∀ t : Fin grid0.N, win0_2.index t 0 = t.val ∧ win0_2.index t 1 = 0) t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = 512 * t.val + r.val; omega
  | ⟨1, _⟩ => show win0_2.index t 1 * 1024 + 1 * d.val = d.val; omega

theorem blk3 (t : Fin cfg0.N) (d : Fin 1024) : iblk m c 3 t (ix2 0 d) = (layer0 m c).g d := by
  have hi := (by decide +kernel : ∀ t : Fin grid0.N, win0_3.index t 0 = 0 ∧ win0_3.index t 1 = 0) t
  unfold iblk
  rw [View.read_apply]
  show V m c main_v10 _ = _
  refine (congrArg (V m c main_v10) (funext fun a => Fin.ext ?_ : _ = (ix2 0 d : S1x1024.Idx))).trans ?_
  · match a with
    | ⟨0, _⟩ => show win0_3.index t 0 * 1 + 1 * 0 = 0; omega
    | ⟨1, _⟩ => show win0_3.index t 1 * 1024 + 1 * d.val = d.val; omega
  · unfold V
    after_reads_at
    rfl

theorem blk4 (t : Fin cfg0.N) (d : Fin 1024) (j : Fin 5632) : iblk m c 4 t (ix3 0 d j) = (layer0 m c).up d j := by
  have hi := (by decide +kernel : ∀ t : Fin grid0.N, win0_4.index t 0 = 0 ∧ win0_4.index t 1 = 0 ∧ win0_4.index t 2 = 0) t
  unfold iblk
  rw [View.read_apply]
  show V m c main_v0 _ = _
  refine (congrArg (V m c main_v0) (funext fun a => Fin.ext ?_ : _ = (ix3 0 d j : S2x1024x5632.Idx))).trans ?_
  · match a with
    | ⟨0, _⟩ => show win0_4.index t 0 * 1 + 1 * 0 = 0; omega
    | ⟨1, _⟩ => show win0_4.index t 1 * 1024 + 1 * d.val = d.val; omega
    | ⟨2, _⟩ => show win0_4.index t 2 * 5632 + 1 * j.val = j.val; omega
  · unfold V
    after_reads_at
    rfl

theorem blk5 (t : Fin cfg0.N) (s : Fin 3) (j : Fin 5632) : iblk m c 5 t (ix2 s j) = (layer0 m c).cw s j := by
  have hi := (by decide +kernel : ∀ t : Fin grid0.N, win0_5.index t 0 = 0 ∧ win0_5.index t 1 = 0) t
  unfold iblk
  rw [View.read_apply]
  show V m c main_v7 _ = _
  refine (congrArg (V m c main_v7) (funext fun a => Fin.ext ?_ : _ = (ix2 s j : S3x5632.Idx))).trans ?_
  · match a with
    | ⟨0, _⟩ => show win0_5.index t 0 * 3 + 1 * s.val = s.val; omega
    | ⟨1, _⟩ => show win0_5.index t 1 * 5632 + 1 * j.val = j.val; omega
  · unfold V
    after_reads_at
    rfl

theorem blk6 (t : Fin cfg0.N) (j : Fin 5632) : iblk m c 6 t (ix2 0 j) = (layer0 m c).cb j := by
  have hi := (by decide +kernel : ∀ t : Fin grid0.N, win0_6.index t 0 = 0 ∧ win0_6.index t 1 = 0) t
  unfold iblk
  rw [View.read_apply]
  show V m c main_v11 _ = _
  refine (congrArg (V m c main_v11) (funext fun a => Fin.ext ?_ : _ = (ix2 0 j : S1x5632.Idx))).trans ?_
  · match a with
    | ⟨0, _⟩ => show win0_6.index t 0 * 1 + 1 * 0 = 0; omega
    | ⟨1, _⟩ => show win0_6.index t 1 * 5632 + 1 * j.val = j.val; omega
  · unfold V
    after_reads_at
    rfl

theorem blk7 (t : Fin cfg0.N) (j : Fin 2816) (d : Fin 1024) : iblk m c 7 t (ix3 0 j d) = (layer0 m c).down j d := by
  have hi := (by decide +kernel : ∀ t : Fin grid0.N, win0_7.index t 0 = 0 ∧ win0_7.index t 1 = 0 ∧ win0_7.index t 2 = 0) t
  unfold iblk
  rw [View.read_apply]
  show V m c main_v1 _ = _
  refine (congrArg (V m c main_v1) (funext fun a => Fin.ext ?_ : _ = (ix3 0 j d : S2x2816x1024.Idx))).trans ?_
  · match a with
    | ⟨0, _⟩ => show win0_7.index t 0 * 1 + 1 * 0 = 0; omega
    | ⟨1, _⟩ => show win0_7.index t 1 * 2816 + 1 * j.val = j.val; omega
    | ⟨2, _⟩ => show win0_7.index t 2 * 1024 + 1 * d.val = d.val; omega
  · unfold V
    after_reads_at
    rfl

/-! ## A grid point's stores, as rows -/

/-- The residual stream's rows. -/
theorem x_row (t : Fin cfg0.N) (r : Fin 512) (d : Fin 1024) :
    k0_pay4 (iblk m c 2 t) (iblk m c 0 t) (iblk m c 1 t) (ix2 r d) = (layer0 m c).x (row (pt t) r) d := by
  pointwise [k0_pay4]
  simp only [blk0, blk1, blk2]
  rfl

/-- The normalized rows. -/
theorem xn_row (t : Fin cfg0.N) (r : Fin 512) (d : Fin 1024) :
    k0_pay5 (iblk m c 2 t) (iblk m c 0 t) (iblk m c 1 t) (iblk m c 3 t) (ix2 r d) = (layer0 m c).xn (row (pt t) r) d := by
  pointwise [k0_pay5]
  simp only [x_row, blk3]
  rfl

/-- The widened rows. -/
theorem u_row (t : Fin cfg0.N) (r : Fin 512) (j : Fin 5632) :
    k0_pay6 (k0_pay5 (iblk m c 2 t) (iblk m c 0 t) (iblk m c 1 t) (iblk m c 3 t)) (iblk m c 4 t) (ix2 r j) = (layer0 m c).u (row (pt t) r) j :=
  pay6_row (xn_row m c t) (blk4 m c t) r j

/-- What a point leaves for the next: its last eight widened rows. -/
theorem left_row (t : Fin cfg0.N) (r : Fin 8) (j : Fin 5632) :
    (outsAt0 m c t.val t.isLt).2 (ix2 r j) = (layer0 m c).u (row (pt t) ⟨504 + r.val, by omega⟩) j := by
  by_cases h0 : t.val % 4 = 0
  · rw [outsAt0_A m c t h0]
    dsimp only
    rw [tail_A]
    exact pay8_row (u_row m c t) r j
  · rw [outsAt0_B m c t h0]
    dsimp only
    rw [tail_B]
    exact pay8_row (u_row m c t) r j

/-- What a point writes, over the rows the point before left. -/
theorem outOf_row (t : Fin cfg0.N) (xs : Vec Ideal S8x5632 .f32) (hs : ∀ r j, xs (ix2 r j) = tail (layer0 m c) (pt t) r j) (r : Fin 512) (d : Fin 1024) :
    outOf (iblk m c 0 t) (iblk m c 1 t) (iblk m c 2 t) (iblk m c 3 t) (iblk m c 4 t) (iblk m c 5 t) (iblk m c 6 t) (iblk m c 7 t) xs (ix2 r d)
      = (layer0 m c).outK (row (pt t) r) d := by
  refine pay2_row (x_row m c t) (pay7_row (u_row m c t) hs (fun j => ?_) (blk6 m c t) (fun j => ?_) (fun j => ?_)) (blk7 m c t) r d
  · exact (congrArg (iblk m c 5 t) (funext fun a => Fin.ext (by match a with | ⟨0, _⟩ => rfl | ⟨1, _⟩ => show 0 + 1 * j.val = j.val; omega) : _ = (ix2 2 j : S3x5632.Idx))).trans (blk5 m c t 2 j)
  · exact (congrArg (iblk m c 5 t) (funext fun a => Fin.ext (by match a with | ⟨0, _⟩ => rfl | ⟨1, _⟩ => show 0 + 1 * j.val = j.val; omega) : _ = (ix2 1 j : S3x5632.Idx))).trans (blk5 m c t 1 j)
  · exact (congrArg (iblk m c 5 t) (funext fun a => Fin.ext (by match a with | ⟨0, _⟩ => rfl | ⟨1, _⟩ => show 0 + 1 * j.val = j.val; omega) : _ = (ix2 0 j : S3x5632.Idx))).trans (blk5 m c t 0 j)

theorem out_row (t : Fin cfg0.N) (r : Fin 512) (d : Fin 1024) :
    (outsAt0 m c t.val t.isLt).1 (ix2 r d) = (layer0 m c).outK (row (pt t) r) d := by
  by_cases h0 : t.val % 4 = 0
  · rw [outsAt0_A m c t h0]
    dsimp only
    rw [out_A]
    refine outOf_row m c t _ (fun r j => ?_) r d
    unfold tail
    rw [if_pos h0]
    pointwise [k0_pay3]
  · rw [outsAt0_B m c t h0]
    dsimp only
    rw [out_B]
    refine outOf_row m c t _ (fun r j => ?_) r d
    unfold tail
    rw [if_neg h0]
    refine (left_row m c ⟨t.val - 1, Nat.lt_of_le_of_lt (Nat.sub_le _ _) t.isLt⟩ r j).trans (congrArg (fun n => (layer0 m c).u n j) (Fin.ext ?_))
    show 512 * (t.val - 1) + (504 + r.val) = 512 * (t.val - 1) + 504 + r.val
    omega

/-! ## The result array -/

theorem result_row (n : Fin 32768) (d : Fin 1024) : G8 m c (ix2 n d) = (layer0 m c).outK n d := by
  have hn := n.isLt
  have hd := d.isLt
  have hN : cfg0.N = 64 := N_0
  have e : pt8Of (ix2 n d) = n.val / 512 := by
    show 1 * (n.val / 512 - 0) + 1 * (d.val / 1024 - 0) = n.val / 512
    omega
  unfold G8
  rw [dif_pos (by rw [e]; omega)]
  refine (congrFun (congrArg Prod.fst (outsAt0_sweep m c (pt8Of (ix2 n d)) (by rw [e]; omega)).symm) (loc8Of (ix2 n d))).trans ?_
  have ho := out_row m c ⟨pt8Of (ix2 n d), by rw [e]; omega⟩ ⟨n.val % 512, by omega⟩ d
  refine (congrArg _ (funext fun a => Fin.ext ?_)).trans (ho.trans (congrArg (fun k => (layer0 m c).outK k d) (Fin.ext ?_)))
  · match a with
    | ⟨0, _⟩ => rfl
    | ⟨1, _⟩ => show d.val % 1024 = d.val; omega
  · show 512 * pt8Of (ix2 n d) + n.val % 512 = n.val
    rw [e]
    omega

end Cert.Proof.FfnA

end
-- ==== Proof.FfnA.Pre.lean ====
/-
  The feed-forward call's precondition, read.
-/
module

public import proofs.«01_k».proof.Proof.FfnA.Kernel
public import proofs.«01_k».proof.Proof.Common.Finite
public import proofs.«01_k».proof.Defs
public import proofs.«01_k».proof.Proof.Gen.Pre_finite3

@[expose] public section

set_option maxRecDepth 16384

noncomputable section

namespace Cert.Proof.FfnA

open Idealize.ShloMosaic Idealize.ShloMosaic.TcCoe Idealize.SL.Sem Cert.Proof.Ffn
open Cert.FfnAIdeal Cert.Proof.Reals

/-- Under the precondition the activation's argument is real. -/
theorem finite_of_pre (m : (ℓ : Loc nD τ sig) → Buf (Elt Ideal) ℓ) (hpre : Pre_FfnAIdeal_finite3 m) (c : Dev nD) : (layer0 m c).Finite := by
  have h := congrFun (hpre c) (fun a => a.elim0)
  dsimp only [Cert.Pre_finite3.fn, Cert.Pre_finite3.fn_part1, Cert.Pre_finite3.fn_part2] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact {
    mix := fun n k => all_real _ _ _ _ _ h0 (ix2 n k)
    wmix := fun k d => all_real _ _ _ _ _ h1 (ix3 0 k d)
    h := fun n d => all_real _ _ _ _ _ h2 (ix2 n d)
    g := fun d => all_real _ _ _ _ _ h3 (ix2 0 d)
    up := fun d j => all_real _ _ _ _ _ h4 (ix3 0 d j)
    cw := fun s j => all_real _ _ _ _ _ h5 (ix3 0 s j)
    cb := fun j => all_real _ _ _ _ _ h6 (ix2 0 j) }

end Cert.Proof.FfnA

end
-- ==== Proof.FfnA.Ref.lean ====
/-
  What the feed-forward reference computes, position by position: `Ffn.Data.out` of its arguments.
-/
module

public import proofs.«01_k».proof.Proof.Ffn.Ref
public import proofs.«01_k».proof.Proof.Gen.FfnARefIdeal.Read
public import Idealize.ShloMosaic.Lib.Pointwise

@[expose] public section

set_option maxRecDepth 16384

noncomputable section

namespace Cert.Proof.FfnA

open Idealize.ShloMosaic Cert.Proof.Ffn
open Cert.FfnARefIdeal Cert.FfnARefIdeal.Gen Cert.FfnARefIdeal.Read

variable (x0 : (⟨S32768x2048, .bf16⟩ : BufTy).Contents (Elt Ideal)) (x1 : (⟨S1x2048x1024, .f32⟩ : BufTy).Contents (Elt Ideal))
  (x2 : (⟨S32768x1024, .f32⟩ : BufTy).Contents (Elt Ideal)) (x3 : (⟨S2x1024, .f32⟩ : BufTy).Contents (Elt Ideal))
  (x4 : (⟨S2x1024x5632, .f32⟩ : BufTy).Contents (Elt Ideal)) (x5 : (⟨S2x3x5632, .f32⟩ : BufTy).Contents (Elt Ideal))
  (x6 : (⟨S2x5632, .f32⟩ : BufTy).Contents (Elt Ideal)) (x7 : (⟨S2x2816x1024, .f32⟩ : BufTy).Contents (Elt Ideal))

/-- The operands of layer 0's feed-forward part, out of the reference's arguments. -/
def refLayer0 : Data 2048 where
  mix n k := x0 (ix2 n k)
  wmix k d := x1 (ix3 0 k d)
  h n d := x2 (ix2 n d)
  g d := x3 (ix2 0 d)
  up d j := x4 (ix3 0 d j)
  cw s j := x5 (ix3 0 s j)
  cb j := x6 (ix2 0 j)
  down j d := x7 (ix3 0 j d)

theorem ref_x (b : Fin 16) (s : Fin 2048) (d : Fin 1024) : val_main_v5 (F := Ideal) x0 x1 x2 (ix3 b s d) = Data.x (refLayer0 x0 x1 x2 x3 x4 x5 x6 x7) (step b s) d := by
  pointwise [val_main_v5, val_main_v4, val_main_v3, val_main_v2, val_main_v1, val_main_v0]
  rfl

theorem ref_xn (b : Fin 16) (s : Fin 2048) (d : Fin 1024) : val_main_v28 (F := Ideal) x0 x1 x2 x3 (ix3 b s d) = Data.xn (refLayer0 x0 x1 x2 x3 x4 x5 x6 x7) (step b s) d := by
  pointwise [val_main_v28, val_main_v27, val_main_v26, val_main_v25, val_main_v24, val_main_v23, val_main_v22, val_main_v21, val_main_v20, val_main_v19,
    val_main_v18, val_main_v17, val_main_v16, val_main_cst, val_main_cst_0, val_main_cst_1, val_main_v7, val_main_v6]
  simp only [ref_x x0 x1 x2 x3 x4 x5 x6 x7]
  rfl

theorem ref_u (b : Fin 16) (s : Fin 2048) (j : Fin 5632) : val_main_v29 (F := Ideal) x0 x1 x2 x3 x4 (ix3 b s j) = Data.u (refLayer0 x0 x1 x2 x3 x4 x5 x6 x7) (step b s) j := by
  pointwise [val_main_v29, val_main_v9, val_main_v8]
  simp only [ref_xn x0 x1 x2 x3 x4 x5 x6 x7]
  rfl

theorem ref_cv (b : Fin 16) (s : Fin 2048) (j : Fin 5632) : val_main_v53 (F := Ideal) x0 x1 x2 x3 x4 x5 x6 (ix3 b s j) = Data.cv (refLayer0 x0 x1 x2 x3 x4 x5 x6 x7) (step b s) j := by
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34,
    val_main_v33, val_main_v32, val_main_v31, val_main_v30, val_main_call0_v0, val_main_c, val_main_v13, val_main_v12, val_main_v11, val_main_v10]
  simp only [ref_u x0 x1 x2 x3 x4 x5 x6 x7]
  unfold Data.cv
  refine congrArg₂ (· + ·) (congrArg₂ (· + ·) (congrArg₂ (· + ·) (congrArg (· * x5 (ix3 0 0 j)) ?_) (congrArg (· * x5 (ix3 0 1 j)) ?_)) rfl) rfl
  · exact back_ref _ b s j 2 ⟨s.val - 2, by omega⟩ (2 ≤ s.val ∧ s.val - 2 < 2048) (by omega) (by omega) (fun _ => rfl) _ sitofp_zero
  · exact back_ref _ b s j 1 ⟨1 + s.val - 2, by omega⟩ (2 ≤ 1 + s.val ∧ 1 + s.val - 2 < 2048) (by omega) (by omega) (fun h => by dsimp only; omega) _ sitofp_zero

theorem ref_out (b : Fin 16) (s : Fin 2048) (d : Fin 1024) : val_main_v59 (F := Ideal) x0 x1 x2 x3 x4 x5 x6 x7 (ix3 b s d) = Data.out (refLayer0 x0 x1 x2 x3 x4 x5 x6 x7) (step b s) d := by
  pointwise [val_main_v59, val_main_v58, val_main_v57, val_main_v56, val_main_v55, val_main_v54, val_main_v15, val_main_v14]
  simp only [ref_x x0 x1 x2 x3 x4 x5 x6 x7, ref_cv x0 x1 x2 x3 x4 x5 x6 x7]
  refine congrArg₂ (· + ·) rfl (Finset.sum_congr rfl fun k _ => ?_)
  refine congrArg₂ (· * ·) (congrArg₂ (· * ·) (congrArg₂ (· * ·) rfl ?_) rfl) rfl
  pointwise [val_main_call1_v5, val_main_call1_v4, val_main_call1_v3, val_main_call1_v2, val_main_call1_v1, val_main_call1_v0, val_main_call1_cst,
    val_main_call1_cst_0, val_main_v54]
  simp only [ref_cv x0 x1 x2 x3 x4 x5 x6 x7]
  rfl

end Cert.Proof.FfnA

end
-- ==== Proof.FfnA.Claim.lean ====
/-
  The feed-forward call's value claim: on real arguments the kernel's result array is the reference's.
-/
module

public import proofs.«01_k».proof.Proof.FfnA.Pre
public import proofs.«01_k».proof.Proof.FfnA.Ref

@[expose] public section

set_option maxRecDepth 16384

noncomputable section

namespace Cert.Proof.FfnA

open Idealize.ShloMosaic Idealize.ShloMosaic.TcCoe Idealize.SL.Sem Cert.Proof.Ffn

section

open Cert.FfnARefIdeal Cert.FfnARefIdeal.Read

/-- The reference's result array. -/
theorem ref_result (m : (ℓ : Loc nD τ sig) → Buf (Elt Ideal) ℓ) (c : Dev nD) (n : Fin 32768) (d : Fin 1024) :
    Cert.FfnARefIdeal.Value.res_main_v60 m c (ix2 n d)
      = (refLayer0 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))).out n d := by
  have hn := n.isLt
  rw [val_main_v60_eq]
  pointwise [val_main_v60]
  refine (ref_out _ _ _ _ _ _ _ _ ⟨n.val / 2048, by omega⟩ ⟨n.val % 2048, by omega⟩ d).trans (congrArg (fun k => Data.out _ k d) (Fin.ext ?_))
  show n.val / 2048 * 2048 + n.val % 2048 = n.val
  omega

end

theorem algebraic : algebraic_FfnAIdeal_FfnARefIdeal_pre_finite3 := by
  intro m g m' g' hpre hm
  refine ⟨fun c => Cert.FfnAIdeal.Value.G8 m c, Cert.FfnAIdeal.Value.run m g, ?_⟩
  refine (θ_run _ _ _).mono (fun r h c => ⟨(h c).1.trans ?_, (h c).2⟩) (Cert.FfnARefIdeal.Value.run m' g')
  funext i
  obtain ⟨e0, e1, e2, e3, e4, e5, e6, e7⟩ := hm c
  idx_vars i
  refine (ref_result m' c _ _).trans (Eq.trans ?_ (result_row m c _ _).symm)
  rw [(finite_of_pre m hpre c).outK_eq, e0, e1, e2, e3, e4, e5, e6, e7]
  rfl

end Cert.Proof.FfnA

end
-- ==== Proof.InProj.Model.lean ====
/-
  The first part of a state-space mixer, as mathematics over the extended reals: the norm, the widening projection,
  the causal four-tap convolution and the gates, written the way the kernel groups them and the way the reference
  does, and that the two are equal when what reaches the gates is real.
-/
module

public import proofs.«01_k».proof.Proof.Common.Reals

@[expose] public section

noncomputable section

namespace Cert.Proof.InProj

open Idealize.ShloMosaic Cert.Proof.Reals
open scoped BigOperators

/-- The operands: the residual stream, the norm's gain, the widening projection and the convolution. Rows are
    batch-major positions. -/
structure Data where
  h : Fin 32768 → Fin 1024 → EReal
  g : Fin 1024 → EReal
  w : Fin 1024 → Fin 5152 → EReal
  cw : Fin 4 → Fin 3072 → EReal
  cb : Fin 3072 → EReal

/-- One half. -/
abbrev half : EReal := Ideal.ofBits .f32 0x3F000000#32

/-- The step that position `r` of chunk `q` holds: within a chunk of 128, step 16·s + k is at position 8·k + s. -/
abbrev step (q : Fin 256) (r : Fin 128) : Fin 32768 := ⟨128 * q.val + (r.val / 8 + 16 * (r.val % 8)), by omega⟩

/-- The columns of the gate, of the convolved part and of the step sizes. -/
abbrev zcol (j : Fin 2048) : Fin 5152 := ⟨j.val, by omega⟩
abbrev ccol (j : Fin 3072) : Fin 5152 := ⟨2048 + j.val, by omega⟩
abbrev dcol (j : Fin 32) : Fin 5152 := ⟨5120 + j.val, by omega⟩

/-- The kernel's gate, by half-angles, of half its argument. -/
def gateH (y : EReal) : EReal := y * Ideal.tanh y + y

namespace Data

variable (D : Data)

/-- The root-mean-square norm with gain. -/
def xn (n : Fin 32768) (d : Fin 1024) : EReal :=
  D.h n d * Ideal.rsqrt (Ideal.div (∑ e, D.h n e * D.h n e) (Ideal.ofBits .f32 0x44800000#32) + Ideal.ofBits .f32 0x358637BD#32) * D.g d

/-- The widened row. -/
def u (n : Fin 32768) (j : Fin 5152) : EReal := ∑ d, D.xn n d * D.w d j

/-- The widened row `s` steps earlier in the same sequence of 2048, zero before its start. -/
def back (n : Fin 32768) (s : ℕ) (j : Fin 3072) : EReal :=
  if n.val % 2048 < s then 0 else D.u ⟨n.val - s, lt_of_le_of_lt (Nat.sub_le _ _) n.isLt⟩ (ccol j)

/-- Half the causal convolution, as the kernel computes it. -/
def cvK (n : Fin 32768) (j : Fin 3072) : EReal :=
  half * D.cw 3 j * D.u n (ccol j) + half * D.cb j + half * D.cw 2 j * D.back n 1 j + half * D.cw 1 j * D.back n 2 j + half * D.cw 0 j * D.back n 3 j

/-- The causal convolution. -/
def cv (n : Fin 32768) (j : Fin 3072) : EReal :=
  D.back n 3 j * D.cw 0 j + D.back n 2 j * D.cw 1 j + D.back n 1 j * D.cw 2 j + D.u n (ccol j) * D.cw 3 j + D.cb j

/-- The step sizes, with zeros in the lanes past the heads. -/
def dt (n : Fin 32768) (j : Fin 128) : EReal := if h : j.val < 32 then D.u n (dcol ⟨j.val, h⟩) else 0

/-- What the two gates' arguments depend on is real. -/
structure Finite : Prop where
  h : ∀ n d, IsReal (D.h n d)
  g : ∀ d, IsReal (D.g d)
  w : ∀ d j, IsReal (D.w d j)
  cw : ∀ s j, IsReal (D.cw s j)
  cb : ∀ j, IsReal (D.cb j)

variable {D}

theorem Finite.xn (H : D.Finite) (n : Fin 32768) (d : Fin 1024) : IsReal (D.xn n d) := by
  obtain ⟨e, he, hE⟩ := ofBits_eps
  exact ((H.h n d).mul (isReal_rsqrt_mean (fun i => H.h n i) 1024 e ofBits_1024 (by norm_num) hE he)).mul (H.g d)

theorem Finite.u (H : D.Finite) (n : Fin 32768) (j : Fin 5152) : IsReal (D.u n j) :=
  IsReal.sum _ fun d _ => (H.xn n d).mul (H.w d j)

theorem Finite.back (H : D.Finite) (n : Fin 32768) (s : ℕ) (j : Fin 3072) : IsReal (D.back n s j) := by
  unfold Data.back
  split
  · exact IsReal.zero
  · exact H.u _ _

theorem Finite.cv (H : D.Finite) (n : Fin 32768) (j : Fin 3072) : IsReal (D.cv n j) :=
  (((((H.back n 3 j).mul (H.cw 0 j)).add ((H.back n 2 j).mul (H.cw 1 j))).add ((H.back n 1 j).mul (H.cw 2 j))).add ((H.u n _).mul (H.cw 3 j))).add (H.cb j)

/-- The kernel's convolution is half the reference's. -/
theorem Finite.cvK_eq (H : D.Finite) (n : Fin 32768) (j : Fin 3072) : D.cvK n j = half * D.cv n j := by
  unfold Data.cvK Data.cv half
  obtain ⟨a0, h0⟩ := H.cw 0 j
  obtain ⟨a1, h1⟩ := H.cw 1 j
  obtain ⟨a2, h2⟩ := H.cw 2 j
  obtain ⟨a3, h3⟩ := H.cw 3 j
  obtain ⟨b, hb⟩ := H.cb j
  obtain ⟨u0, k0⟩ := H.u n (ccol j)
  obtain ⟨u1, k1⟩ := H.back n 1 j
  obtain ⟨u2, k2⟩ := H.back n 2 j
  obtain ⟨u3, k3⟩ := H.back n 3 j
  rw [h0, h1, h2, h3, hb, k0, k1, k2, k3, ofBits_half]
  simp only [← EReal.coe_mul, ← EReal.coe_add]
  congr 1
  ring

/-- The convolved part's gate. -/
theorem Finite.conv_gate (H : D.Finite) (n : Fin 32768) (j : Fin 3072) : gateH (D.cvK n j) = D.cv n j * Ideal.logistic (D.cv n j) := by
  rw [H.cvK_eq]
  exact gate_eq (H.cv n j)

/-- The other part's gate. -/
theorem Finite.z_gate (H : D.Finite) (n : Fin 32768) (j : Fin 5152) : gateH (half * D.u n j) = D.u n j * Ideal.logistic (D.u n j) :=
  gate_eq (H.u n j)

end Data

end Cert.Proof.InProj

end
-- ==== Proof.InProj.Block.lean ====
/-
  One block of 512 positions of the kernel that makes a state-space mixer's inputs, read off its stored values: the
  reordered rows, the projections, and for each of the block's four chunks the convolution over the chunk and the last
  rows of the chunk before.
-/
module

public import proofs.«01_k».proof.Proof.InProj.Model
public import proofs.«01_k».proof.Proof.Gen.InProjIdeal.Skeleton
public import Idealize.ShloMosaic.Lib.Pointwise

@[expose] public section

set_option maxRecDepth 16384

noncomputable section

namespace Cert.Proof.InProj

open Idealize.ShloMosaic
open Cert.InProjIdeal Cert.InProjIdeal.Gen
open scoped BigOperators

/-! ## The reordering -/

/-- The position that position `r` of a chunk takes its row from. -/
abbrev from8 (r : Fin 128) : Fin 128 := ⟨r.val / 8 + 16 * (r.val % 8), by omega⟩

/-- The matrix that reorders a chunk's rows, as the kernel writes it. -/
def perm : FVec Ideal S128x128 .bf16 :=
  k0_pay6 (iota .tc S128x128 32 [0] iota_S128x128_d0_w32) (iota .tc S128x128 32 [1] iota_S128x128_d1_w32) 8#32 k0_pay4 k0_pay5

theorem perm_apply (r c : Fin 128) : perm (ix2 r c) = if c = from8 r then 1 else 0 := by
  have e : ∀ r c : Fin 128, (IntOp.cmpi CmpIPredicate.eq (BitVec.ofNat 32 c.val) (BitVec.ofNat 32 (r.val / 8 + 16 * (r.val % 8)))) = if c = from8 r then 1#1 else 0#1 := by
    decide +kernel
  unfold perm
  pointwise [k0_pay6, k0_pay5, k0_pay4]
  have h := (by decide +kernel : ∀ r : Fin 128,
    IntOp.addi
          (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 r.val) 8#32) 0#32))
            (IntOp.subi (IntOp.divsi ArithUnit.vector (BitVec.ofNat 32 r.val) 8#32) 1#32)
            (IntOp.divsi ArithUnit.vector (BitVec.ofNat 32 r.val) 8#32))
          (IntOp.muli (16#32)
            (Scalar.select
              (IntOp.andi
                (IntOp.xori
                  (IntOp.cmpi CmpIPredicate.slt
                    (IntOp.remsi ArithUnit.vector (BitVec.ofNat 32 r.val)
                      (Scalar.select (Scalar.cmpi CmpIPredicate.eq 8#32 0#32) 1#32 8#32))
                    0#32)
                  (Scalar.cmpi CmpIPredicate.slt (Scalar.select (Scalar.cmpi CmpIPredicate.eq 8#32 0#32) 1#32 8#32)
                    0#32))
                (IntOp.cmpi CmpIPredicate.ne
                  (IntOp.remsi ArithUnit.vector (BitVec.ofNat 32 r.val)
                    (Scalar.select (Scalar.cmpi CmpIPredicate.eq 8#32 0#32) 1#32 8#32))
                  0#32))
              (IntOp.addi
                (IntOp.remsi ArithUnit.vector (BitVec.ofNat 32 r.val)
                  (Scalar.select (Scalar.cmpi CmpIPredicate.eq 8#32 0#32) 1#32 8#32))
                (Scalar.select (Scalar.cmpi CmpIPredicate.eq 8#32 0#32) 1#32 8#32))
              (IntOp.remsi ArithUnit.vector (BitVec.ofNat 32 r.val)
                (Scalar.select (Scalar.cmpi CmpIPredicate.eq 8#32 0#32) 1#32 8#32)))) = BitVec.ofNat 32 (r.val / 8 + 16 * (r.val % 8))) r
  rw [h, e]
  split
  · rfl
  · rfl

/-- The reordering picks rows. -/
theorem sum_perm (r : Fin 128) (f : Fin 128 → EReal) : ∑ c, perm (ix2 r c) * f c = f (from8 r) := by
  simp only [perm_apply, ite_mul, one_mul, zero_mul, Finset.sum_ite_eq', Finset.sum_ite_eq, Finset.mem_univ, if_true]

/-- A chunk's rows, reordered. -/
theorem reorder_apply (v : FVec Ideal S512x1024 .bf16) (o : ℕ) (ho : o + 128 ≤ 512) (h : S512x1024.Slices ![o, 0] S128x1024) (r : Fin 128) (d : Fin 1024) :
    matmul dot_S128x128_S128x1024_S128x1024_1_0_0_1_n_n none perm (extractStridedSlice S128x1024 ![o, 0] v h) (constant S128x1024 .f32 0x00000000#32) (ix2 r d)
      = v (ix2 ⟨o + (from8 r).val, by have := (from8 r).isLt; omega⟩ d) := by
  refine Eq.trans ?_ (sum_perm r fun c => v (ix2 ⟨o + c.val, by omega⟩ d))
  pointwise

section Rows

variable (x0 : Vec Ideal S512x1024 .f32) (x1 : Vec Ideal S1x1024 .f32)

/-- The block's rows, normalized and reordered. -/
def mixed : FVec Ideal S512x1024 .bf16 :=
  k0_pay9 (k0_pay3 x0 x1) perm
    (k0_pay7 (k0_pay3 x0 x1) (iota .tc S128x128 32 [0] iota_S128x128_d0_w32) (iota .tc S128x128 32 [1] iota_S128x128_d1_w32) 8#32 k0_pay4 k0_pay5)
    (k0_pay8 (k0_pay3 x0 x1) (iota .tc S128x128 32 [0] iota_S128x128_d0_w32) (iota .tc S128x128 32 [1] iota_S128x128_d1_w32) 8#32 k0_pay4 k0_pay5)

/-- The position in the block that a reordered row comes from. -/
abbrev from512 (r : Fin 512) : Fin 512 := ⟨128 * (r.val / 128) + (r.val % 128 / 8 + 16 * (r.val % 128 % 8)), by omega⟩

theorem mixed_apply (r : Fin 512) (d : Fin 1024) : mixed x0 x1 (ix2 r d) = k0_pay3 x0 x1 (ix2 (from512 r) d) := by
  generalize hv : k0_pay3 x0 x1 = v
  have e0 := fun r => reorder_apply v 0 (by omega) slices_S512x1024_o0_0_S128x1024 r d
  have e1 := fun r => reorder_apply v 128 (by omega) slices_S512x1024_o128_0_S128x1024 r d
  have e2 := fun r => reorder_apply v 256 (by omega) slices_S512x1024_o256_0_S128x1024 r d
  have e3 := fun r => reorder_apply v 384 (by omega) slices_S512x1024_o384_0_S128x1024 r d
  unfold mixed k0_pay9 k0_pay7 k0_pay8
  dsimp only
  rw [hv]
  change concatenate S512x1024 0 [⟨S128x1024, truncf .bf16 (matmul dot_S128x128_S128x1024_S128x1024_1_0_0_1_n_n none perm (extractStridedSlice S128x1024 ![0, 0] v slices_S512x1024_o0_0_S128x1024) (constant (F := Ideal) S128x1024 .f32 0x00000000#32)) bitsLt_bf16_f32⟩,
    ⟨S128x1024, truncf .bf16 (matmul dot_S128x128_S128x1024_S128x1024_1_0_0_1_n_n none perm (extractStridedSlice S128x1024 ![128, 0] v slices_S512x1024_o128_0_S128x1024) (constant (F := Ideal) S128x1024 .f32 0x00000000#32)) bitsLt_bf16_f32⟩, _, _] _ _ = _
  generalize matmul dot_S128x128_S128x1024_S128x1024_1_0_0_1_n_n none perm (extractStridedSlice S128x1024 ![0, 0] v slices_S512x1024_o0_0_S128x1024) _ = a0 at e0 ⊢
  generalize matmul dot_S128x128_S128x1024_S128x1024_1_0_0_1_n_n none perm (extractStridedSlice S128x1024 ![128, 0] v slices_S512x1024_o128_0_S128x1024) _ = a1 at e1 ⊢
  generalize matmul dot_S128x128_S128x1024_S128x1024_1_0_0_1_n_n none perm (extractStridedSlice S128x1024 ![256, 0] v slices_S512x1024_o256_0_S128x1024) _ = a2 at e2 ⊢
  generalize matmul dot_S128x128_S128x1024_S128x1024_1_0_0_1_n_n none perm (extractStridedSlice S128x1024 ![384, 0] v slices_S512x1024_o384_0_S128x1024) _ = a3 at e3 ⊢
  pointwise
  have key : ∀ (n : Fin 512), n.val = (from512 r).val → v (ix2 n d) = v (ix2 (from512 r) d) := fun n hn => by rw [Fin.ext hn]
  have hr := r.isLt
  split
  · refine (e0 _).trans (key _ ?_); show 0 + (r.val / 8 + 16 * (r.val % 8)) = _; show _ = 128 * (r.val / 128) + (r.val % 128 / 8 + 16 * (r.val % 128 % 8)); omega
  split
  · refine (e1 _).trans (key _ ?_); show 128 + ((r.val - 128) / 8 + 16 * ((r.val - 128) % 8)) = 128 * (r.val / 128) + (r.val % 128 / 8 + 16 * (r.val % 128 % 8)); omega
  split
  · refine (e2 _).trans (key _ ?_); show 256 + ((r.val - 128 - 128) / 8 + 16 * ((r.val - 128 - 128) % 8)) = 128 * (r.val / 128) + (r.val % 128 / 8 + 16 * (r.val % 128 % 8)); omega
  · refine (e3 _).trans (key _ ?_); show 384 + ((r.val - 128 - 128 - 128) / 8 + 16 * ((r.val - 128 - 128 - 128) % 8)) = 128 * (r.val / 128) + (r.val % 128 / 8 + 16 * (r.val % 128 % 8)); omega

end Rows

/-! ## One chunk's convolution -/

/-- The last rows of the chunk `u` and of the chunk before, `prev`, one place on: group `i` of eight rows. -/
abbrev wrapped (prev : FVec Ideal S24x3072 .f32) (u : FVec Ideal S128x3072 .f32) (i : Fin 3) (hp : S24x3072.Slices ![8 * i.val, 0] S8x3072)
    (hu : S128x3072.Slices ![104 + 8 * i.val, 0] S8x3072) : FVec Ideal S8x3072 .f32 :=
  select (cmpi .eq (iota .tc S8x3072 32 [0] iota_S8x3072_d0_w32) (broadcast S8x3072 0#32))
    (dynamicRotate 0 1#32 none (extractStridedSlice S8x3072 ![8 * i.val, 0] prev hp) rotates_S8x3072_d0)
    (dynamicRotate 0 1#32 none (extractStridedSlice S8x3072 ![104 + 8 * i.val, 0] u hu) rotates_S8x3072_d0)

abbrev group0 (prev : FVec Ideal S24x3072 .f32) (u : FVec Ideal S128x3072 .f32) := wrapped prev u 0 slices_S24x3072_o0_0_S8x3072 slices_S128x3072_o104_0_S8x3072
abbrev group1 (prev : FVec Ideal S24x3072 .f32) (u : FVec Ideal S128x3072 .f32) := wrapped prev u 1 slices_S24x3072_o8_0_S8x3072 slices_S128x3072_o112_0_S8x3072
abbrev group2 (prev : FVec Ideal S24x3072 .f32) (u : FVec Ideal S128x3072 .f32) := wrapped prev u 2 slices_S24x3072_o16_0_S8x3072 slices_S128x3072_o120_0_S8x3072

/-- The chunk's rows one, two and three steps earlier. -/
def delayed1 (prev : FVec Ideal S24x3072 .f32) (u : FVec Ideal S128x3072 .f32) : FVec Ideal S128x3072 .f32 :=
  concatenate S128x3072 0 [⟨S8x3072, group2 prev u⟩, ⟨S120x3072, extractStridedSlice S120x3072 ![0, 0] u slices_S128x3072_o0_0_S120x3072⟩]
    concatenates_S8x3072_S120x3072_S128x3072_d0
def delayed2 (prev : FVec Ideal S24x3072 .f32) (u : FVec Ideal S128x3072 .f32) : FVec Ideal S128x3072 .f32 :=
  concatenate S128x3072 0 [⟨S8x3072, group1 prev u⟩, ⟨S8x3072, group2 prev u⟩, ⟨S112x3072, extractStridedSlice S112x3072 ![0, 0] u slices_S128x3072_o0_0_S112x3072⟩]
    concatenates_S8x3072_S8x3072_S112x3072_S128x3072_d0
def delayed3 (prev : FVec Ideal S24x3072 .f32) (u : FVec Ideal S128x3072 .f32) : FVec Ideal S128x3072 .f32 :=
  concatenate S128x3072 0 [⟨S8x3072, group0 prev u⟩, ⟨S8x3072, group1 prev u⟩, ⟨S8x3072, group2 prev u⟩,
    ⟨S104x3072, extractStridedSlice S104x3072 ![0, 0] u slices_S128x3072_o0_0_S104x3072⟩] concatenates_S8x3072_S8x3072_S8x3072_S104x3072_S128x3072_d0

/-- Half the chunk's convolution. -/
def convHalf (cw : FVec Ideal S4x3072 .f32) (cb : FVec Ideal S1x3072 .f32) (prev : FVec Ideal S24x3072 .f32) (u : FVec Ideal S128x3072 .f32) : FVec Ideal S128x3072 .f32 :=
  addf (addf (addf (addf
    (mulf (broadcastTo S128x3072 (extractStridedSlice S1x3072 ![3, 0] cw slices_S4x3072_o3_0_S1x3072) broadcasts_S1x3072_S128x3072) u)
    (broadcastTo S128x3072 cb broadcasts_S1x3072_S128x3072))
    (mulf (broadcastTo S128x3072 (extractStridedSlice S1x3072 ![2, 0] cw slices_S4x3072_o2_0_S1x3072) broadcasts_S1x3072_S128x3072) (delayed1 prev u)))
    (mulf (broadcastTo S128x3072 (extractStridedSlice S1x3072 ![1, 0] cw slices_S4x3072_o1_0_S1x3072) broadcasts_S1x3072_S128x3072) (delayed2 prev u)))
    (mulf (broadcastTo S128x3072 (extractStridedSlice S1x3072 ![0, 0] cw slices_S4x3072_o0_0_S1x3072) broadcasts_S1x3072_S128x3072) (delayed3 prev u))

/-- The chunk's convolution through its gate. -/
def convAct (cw : FVec Ideal S4x3072 .f32) (cb : FVec Ideal S1x3072 .f32) (prev : FVec Ideal S24x3072 .f32) (u : FVec Ideal S128x3072 .f32) : FVec Ideal S128x3072 .f32 :=
  addf (mulf (convHalf cw cb prev u) (tanh (convHalf cw cb prev u))) (convHalf cw cb prev u)

/-- The rows of the block's four chunks, and the last rows each chunk leaves for the next. -/
abbrev chunk0 (v : FVec Ideal S512x3072 .f32) : FVec Ideal S128x3072 .f32 := k0_pay20 v
abbrev chunk1 (v : FVec Ideal S512x3072 .f32) : FVec Ideal S128x3072 .f32 := k0_pay31 v
abbrev chunk2 (v : FVec Ideal S512x3072 .f32) : FVec Ideal S128x3072 .f32 := k0_pay42 v
abbrev chunk3 (v : FVec Ideal S512x3072 .f32) : FVec Ideal S128x3072 .f32 := k0_pay49 v

section Same

variable (v : FVec Ideal S512x3072 .f32) (w : Vec Ideal S4x3072 .f32) (b : Vec Ideal S1x3072 .f32) (p : Vec Ideal S24x3072 .f32)

/-- Each chunk's stored values are the one function of its rows and of the last rows before it. -/
theorem act0 : k0_pay25 (k0_pay18 w) p (k0_pay20 v) (iota .tc S8x3072 32 [0] iota_S8x3072_d0_w32) (k0_pay21 v w b p) k0_pay22 (k0_pay23 p) (k0_pay24 v)
    = convAct (k0_pay18 w) (k0_pay19 b) p (chunk0 v) := rfl

theorem act1 : k0_pay37 (k0_pay18 w) (k0_pay30 (chunk0 v)) (k0_pay31 v) (iota .tc S8x3072 32 [0] iota_S8x3072_d0_w32)
      (k0_pay32 v (k0_pay18 w) (k0_pay19 b) (chunk0 v)) (k0_pay33 v (chunk0 v)) k0_pay34 (k0_pay35 (chunk0 v)) (k0_pay36 v)
    = convAct (k0_pay18 w) (k0_pay19 b) (k0_pay30 (chunk0 v)) (chunk1 v) := rfl

theorem act2 : k0_pay44 (k0_pay18 w) (k0_pay41 (chunk1 v)) (k0_pay42 v) (iota .tc S8x3072 32 [0] iota_S8x3072_d0_w32)
      (k0_pay43 v (k0_pay18 w) (k0_pay19 b) (chunk1 v)) 0#32
    = convAct (k0_pay18 w) (k0_pay19 b) (k0_pay41 (chunk1 v)) (chunk2 v) := rfl

theorem act3 : k0_pay52 (k0_pay18 w) (k0_pay48 (chunk2 v)) (k0_pay49 v) (iota .tc S8x3072 32 [0] iota_S8x3072_d0_w32)
      (k0_pay50 v (k0_pay18 w) (k0_pay19 b) (k0_pay48 (chunk2 v))) (k0_pay51 v (k0_pay48 (chunk2 v))) 0#32
    = convAct (k0_pay18 w) (k0_pay19 b) (k0_pay48 (chunk2 v)) (chunk3 v) := rfl

end Same

theorem wrapped_apply (prev : FVec Ideal S24x3072 .f32) (u : FVec Ideal S128x3072 .f32) (i : Fin 3) (hp hu) (s : Fin 8) (j : Fin 3072) :
    wrapped prev u i hp hu (ix2 s j) = if s.val = 0 then prev (ix2 ⟨8 * i.val + 7, by omega⟩ j) else u (ix2 ⟨104 + 8 * i.val + (s.val - 1), by omega⟩ j) := by
  have e := (by decide +kernel : ∀ s : Fin 8, IntOp.cmpi CmpIPredicate.eq (BitVec.ofNat 32 s.val) 0#32 = if s.val = 0 then 1#1 else 0#1) s
  pointwise [wrapped]
  rw [e]
  by_cases h : s.val = 0
  · rw [if_pos h, if_pos h]
    show prev _ = _
    exact congrArg (fun k => prev (ix2 k j)) (Fin.ext (by show 8 * i.val + (s.val + 8 - 1) % 8 = 8 * i.val + 7; omega))
  · rw [if_neg h, if_neg h]
    show u _ = _
    exact congrArg (fun k => u (ix2 k j)) (Fin.ext (by show 104 + 8 * i.val + (s.val + 8 - 1) % 8 = 104 + 8 * i.val + (s.val - 1); omega))

/-! ## A chunk of steps -/

section Chunk

variable (D : Data) (q : Fin 256) {prev : FVec Ideal S24x3072 .f32} {u : FVec Ideal S128x3072 .f32}

/-- The last rows of the chunk before chunk `q`, zero where `q` begins a sequence. -/
def carry (r : Fin 24) (j : Fin 3072) : EReal :=
  if q.val % 16 = 0 then 0 else D.u (step ⟨q.val - 1, by omega⟩ ⟨104 + r.val, by omega⟩) (ccol j)

variable {D q} (hprev : ∀ r j, prev (ix2 r j) = carry D q r j) (hu : ∀ r j, u (ix2 r j) = D.u (step q r) (ccol j))

include hprev hu

/-- A wrapped group of rows is `k` steps back of the rows it stands in for. -/
theorem wrapped_row (i : Fin 3) (hp' hu') (s : Fin 8) (j : Fin 3072) (r : Fin 128) (k : ℕ) (hk : r.val / 8 + 3 = i.val + k) (hk3 : k ≤ 3) (hs : s.val = r.val % 8) :
    wrapped prev u i hp' hu' (ix2 s j) = D.back (step q r) k j := by
  have hi := i.isLt
  have hr := r.isLt
  have hq := q.isLt
  have hm : (128 * q.val + (r.val / 8 + 16 * (r.val % 8))) % 2048 = 128 * (q.val % 16) + (r.val / 8 + 16 * (r.val % 8)) := by omega
  rw [wrapped_apply, hprev, hu]
  unfold Data.back carry
  by_cases h0 : s.val = 0
  · rw [if_pos h0]
    by_cases h1 : q.val % 16 = 0
    · rw [if_pos h1, if_pos (by show (128 * q.val + (r.val / 8 + 16 * (r.val % 8))) % 2048 < k; omega)]
    · rw [if_neg h1, if_neg (by show ¬(128 * q.val + (r.val / 8 + 16 * (r.val % 8))) % 2048 < k; omega)]
      refine congrArg (fun n => D.u n (ccol j)) (Fin.ext ?_)
      show 128 * (q.val - 1) + ((104 + (8 * i.val + 7)) / 8 + 16 * ((104 + (8 * i.val + 7)) % 8)) = 128 * q.val + (r.val / 8 + 16 * (r.val % 8)) - k
      omega
  · rw [if_neg h0, if_neg (by show ¬(128 * q.val + (r.val / 8 + 16 * (r.val % 8))) % 2048 < k; omega)]
    refine congrArg (fun n => D.u n (ccol j)) (Fin.ext ?_)
    show 128 * q.val + ((104 + 8 * i.val + (s.val - 1)) / 8 + 16 * ((104 + 8 * i.val + (s.val - 1)) % 8)) = 128 * q.val + (r.val / 8 + 16 * (r.val % 8)) - k
    omega

omit hprev in
/-- A row `8·k` places up is `k` steps back. -/
theorem moved_row (r r' : Fin 128) (j : Fin 3072) (k : ℕ) (hr' : r'.val + 8 * k = r.val) : u (ix2 r' j) = D.back (step q r) k j := by
  have hr := r.isLt
  have hq := q.isLt
  rw [hu]
  unfold Data.back
  have hm : (128 * q.val + (r.val / 8 + 16 * (r.val % 8))) % 2048 = 128 * (q.val % 16) + (r.val / 8 + 16 * (r.val % 8)) := by omega
  rw [if_neg (by show ¬(128 * q.val + (r.val / 8 + 16 * (r.val % 8))) % 2048 < k; omega)]
  refine congrArg (fun n => D.u n (ccol j)) (Fin.ext ?_)
  show 128 * q.val + (r'.val / 8 + 16 * (r'.val % 8)) = 128 * q.val + (r.val / 8 + 16 * (r.val % 8)) - k
  omega

theorem delayed1_row (r : Fin 128) (j : Fin 3072) : delayed1 prev u (ix2 r j) = D.back (step q r) 1 j := by
  have g2 : ∀ (s : Fin 8) (k : ℕ), r.val / 8 + 3 = 2 + k → k ≤ 3 → s.val = r.val % 8 → group2 prev u (ix2 s j) = D.back (step q r) k j := fun s k => wrapped_row hprev hu 2 slices_S24x3072_o16_0_S8x3072 slices_S128x3072_o120_0_S8x3072 s j r k
  unfold delayed1
  generalize group2 prev u = a2 at g2 ⊢
  pointwise
  split
  · exact g2 _ _ (by show r.val / 8 + 3 = 2 + 1; omega) (by omega) (by show r.val = r.val % 8; omega)
  · exact moved_row hu _ _ _ _ (by show r.val - 8 + 8 * 1 = r.val; omega)

theorem delayed2_row (r : Fin 128) (j : Fin 3072) : delayed2 prev u (ix2 r j) = D.back (step q r) 2 j := by
  have g1 : ∀ (s : Fin 8) (k : ℕ), r.val / 8 + 3 = 1 + k → k ≤ 3 → s.val = r.val % 8 → group1 prev u (ix2 s j) = D.back (step q r) k j := fun s k => wrapped_row hprev hu 1 slices_S24x3072_o8_0_S8x3072 slices_S128x3072_o112_0_S8x3072 s j r k
  have g2 : ∀ (s : Fin 8) (k : ℕ), r.val / 8 + 3 = 2 + k → k ≤ 3 → s.val = r.val % 8 → group2 prev u (ix2 s j) = D.back (step q r) k j := fun s k => wrapped_row hprev hu 2 slices_S24x3072_o16_0_S8x3072 slices_S128x3072_o120_0_S8x3072 s j r k
  unfold delayed2
  generalize group1 prev u = a1 at g1 ⊢
  generalize group2 prev u = a2 at g2 ⊢
  pointwise
  split
  · exact g1 _ _ (by show r.val / 8 + 3 = 1 + 2; omega) (by omega) (by show r.val = r.val % 8; omega)
  split
  · exact g2 _ _ (by show r.val / 8 + 3 = 2 + 2; omega) (by omega) (by show r.val - 8 = r.val % 8; omega)
  · exact moved_row hu _ _ _ _ (by show r.val - 8 - 8 + 8 * 2 = r.val; omega)

theorem delayed3_row (r : Fin 128) (j : Fin 3072) : delayed3 prev u (ix2 r j) = D.back (step q r) 3 j := by
  have g0 : ∀ (s : Fin 8) (k : ℕ), r.val / 8 + 3 = 0 + k → k ≤ 3 → s.val = r.val % 8 → group0 prev u (ix2 s j) = D.back (step q r) k j := fun s k => wrapped_row hprev hu 0 slices_S24x3072_o0_0_S8x3072 slices_S128x3072_o104_0_S8x3072 s j r k
  have g1 : ∀ (s : Fin 8) (k : ℕ), r.val / 8 + 3 = 1 + k → k ≤ 3 → s.val = r.val % 8 → group1 prev u (ix2 s j) = D.back (step q r) k j := fun s k => wrapped_row hprev hu 1 slices_S24x3072_o8_0_S8x3072 slices_S128x3072_o112_0_S8x3072 s j r k
  have g2 : ∀ (s : Fin 8) (k : ℕ), r.val / 8 + 3 = 2 + k → k ≤ 3 → s.val = r.val % 8 → group2 prev u (ix2 s j) = D.back (step q r) k j := fun s k => wrapped_row hprev hu 2 slices_S24x3072_o16_0_S8x3072 slices_S128x3072_o120_0_S8x3072 s j r k
  unfold delayed3
  generalize group0 prev u = a0 at g0 ⊢
  generalize group1 prev u = a1 at g1 ⊢
  generalize group2 prev u = a2 at g2 ⊢
  pointwise
  split
  · exact g0 _ _ (by show r.val / 8 + 3 = 0 + 3; omega) (by omega) (by show r.val = r.val % 8; omega)
  split
  · exact g1 _ _ (by show r.val / 8 + 3 = 1 + 3; omega) (by omega) (by show r.val - 8 = r.val % 8; omega)
  split
  · exact g2 _ _ (by show r.val / 8 + 3 = 2 + 3; omega) (by omega) (by show r.val - 8 - 8 = r.val % 8; omega)
  · exact moved_row hu _ _ _ _ (by show r.val - 8 - 8 - 8 + 8 * 3 = r.val; omega)

variable {w : Vec Ideal S4x3072 .f32} {b : Vec Ideal S1x3072 .f32} (hw : ∀ s j, w (ix2 s j) = D.cw s j) (hb : ∀ j, b (ix2 0 j) = D.cb j)

include hw hb

theorem convHalf_row (r : Fin 128) (j : Fin 3072) : convHalf (k0_pay18 w) (k0_pay19 b) prev u (ix2 r j) = D.cvK (step q r) j := by
  have e1 := delayed1_row hprev hu r j
  have e2 := delayed2_row hprev hu r j
  have e3 := delayed3_row hprev hu r j
  unfold convHalf
  generalize delayed1 prev u = a1 at e1 ⊢
  generalize delayed2 prev u = a2 at e2 ⊢
  generalize delayed3 prev u = a3 at e3 ⊢
  pointwise [k0_pay18, k0_pay19]
  rw [e1, e2, e3, hu, hw, hw, hw, hw, hb]
  rfl

theorem convAct_row (r : Fin 128) (j : Fin 3072) : convAct (k0_pay18 w) (k0_pay19 b) prev u (ix2 r j) = gateH (D.cvK (step q r) j) := by
  have e := convHalf_row hprev hu hw hb r j
  unfold convAct
  generalize convHalf (k0_pay18 w) (k0_pay19 b) prev u = a at e ⊢
  pointwise
  rw [e]
  rfl

end Chunk

end Cert.Proof.InProj

end
-- ==== Proof.InProj.Stores.lean ====
/-
  What one grid point of the kernel that makes a state-space mixer's inputs stores: each result's block, chunk by chunk,
  and the rows it leaves for the next point.
-/
module

public import proofs.«01_k».proof.Proof.InProj.Block
public import proofs.«01_k».proof.Proof.Gen.InProjIdeal.Value

@[expose] public section

set_option maxRecDepth 16384

noncomputable section

namespace Cert.Proof.InProj

open Idealize.ShloMosaic Idealize.ShloMosaic.TcCoe Idealize.SL.Sem
open Cert.InProjIdeal Cert.InProjIdeal.Gen Cert.InProjIdeal.Value

/-! ## A block's chunks -/

theorem slices_chunk (a : Fin 4) : S512x3072.Slices ![128 * a.val, 0] S128x3072 :=
  ⟨rfl, fun x => match x with | ⟨0, _⟩ => by show 128 * a.val + 128 ≤ 512; omega | ⟨1, _⟩ => by show 0 + 3072 ≤ 3072; omega⟩
theorem slices_gate (a : Fin 4) : S512x2048.Slices ![128 * a.val, 0] S128x2048 :=
  ⟨rfl, fun x => match x with | ⟨0, _⟩ => by show 128 * a.val + 128 ≤ 512; omega | ⟨1, _⟩ => by show 0 + 2048 ≤ 2048; omega⟩

/-- Chunk `a` of a block's rows. -/
def chunkOf (v : FVec Ideal S512x3072 .f32) (a : Fin 4) : FVec Ideal S128x3072 .f32 := extractStridedSlice S128x3072 ![128 * a.val, 0] v (slices_chunk a)

/-- The last rows of a chunk. -/
def lastRows (u : FVec Ideal S128x3072 .f32) : FVec Ideal S24x3072 .f32 := extractStridedSlice S24x3072 ![104, 0] u slices_S128x3072_o104_0_S24x3072

/-- The last rows before chunk `a`: the chunk before's, or what the point before left. -/
def prevOf (v : FVec Ideal S512x3072 .f32) (p : Vec Ideal S24x3072 .f32) (a : Fin 4) : FVec Ideal S24x3072 .f32 := match a with
  | ⟨0, _⟩ => p
  | ⟨k + 1, h⟩ => lastRows (chunkOf v ⟨k, by omega⟩)

/-- Chunk `a`'s convolution through its gate. -/
def actOf (v : FVec Ideal S512x3072 .f32) (w : Vec Ideal S4x3072 .f32) (b : Vec Ideal S1x3072 .f32) (p : Vec Ideal S24x3072 .f32) (a : Fin 4) : FVec Ideal S128x3072 .f32 :=
  convAct (k0_pay18 w) (k0_pay19 b) (prevOf v p a) (chunkOf v a)

/-- A chunk with its steps last. -/
def turned (y : FVec Ideal S128x2048 .f32) : FVec Ideal S1x2048x128 .f32 :=
  shapeCast S1x2048x128 (transpose S2048x128 [1, 0] y transposes_S128x2048_p1_0_S2048x128) shapeCasts_S2048x128_S1x2048x128

theorem turned_apply (y : FVec Ideal S128x2048 .f32) (j : Fin 2048) (r : Fin 128) : turned y (ix3 0 j r) = y (ix2 r j) := by
  unfold turned
  pointwise

section Rows

variable (x0 : Vec Ideal S512x1024 .f32) (x1 : Vec Ideal S1x1024 .f32)

/-- The convolved part's projection of a block, and the gate. -/
def convIn (w : Vec Ideal S1024x3072 .bf16) : FVec Ideal S512x3072 .f32 :=
  k0_pay10 (k0_pay3 x0 x1) perm
    (k0_pay7 (k0_pay3 x0 x1) (iota .tc S128x128 32 [0] iota_S128x128_d0_w32) (iota .tc S128x128 32 [1] iota_S128x128_d1_w32) 8#32 k0_pay4 k0_pay5)
    (k0_pay8 (k0_pay3 x0 x1) (iota .tc S128x128 32 [0] iota_S128x128_d0_w32) (iota .tc S128x128 32 [1] iota_S128x128_d1_w32) 8#32 k0_pay4 k0_pay5) w
def gateIn (w : Vec Ideal S1024x2048 .bf16) : FVec Ideal S512x2048 .f32 :=
  k0_pay11 (k0_pay3 x0 x1) perm
    (k0_pay7 (k0_pay3 x0 x1) (iota .tc S128x128 32 [0] iota_S128x128_d0_w32) (iota .tc S128x128 32 [1] iota_S128x128_d1_w32) 8#32 k0_pay4 k0_pay5)
    (k0_pay8 (k0_pay3 x0 x1) (iota .tc S128x128 32 [0] iota_S128x128_d0_w32) (iota .tc S128x128 32 [1] iota_S128x128_d1_w32) 8#32 k0_pay4 k0_pay5) w

theorem convIn_apply (w : Vec Ideal S1024x3072 .bf16) (r : Fin 512) (j : Fin 3072) :
    convIn x0 x1 w (ix2 r j) = ∑ d, k0_pay3 x0 x1 (ix2 (from512 r) d) * w (ix2 d j) := by
  have e := mixed_apply x0 x1 r
  unfold mixed at e
  unfold convIn
  pointwise [k0_pay10]
  simp only [e]

theorem gateIn_apply (w : Vec Ideal S1024x2048 .bf16) (r : Fin 512) (j : Fin 2048) :
    gateIn x0 x1 w (ix2 r j) = gateH (half * ∑ d, k0_pay3 x0 x1 (ix2 (from512 r) d) * w (ix2 d j)) := by
  have e := mixed_apply x0 x1 r
  unfold mixed at e
  unfold gateIn
  pointwise [k0_pay11]
  simp only [e]
  rfl

theorem dt_apply (w : Vec Ideal S1024x128 .bf16) (r : Fin 512) (j : Fin 128) :
    k0_pay17 (mixed x0 x1) w (ix2 r j) = ∑ d, k0_pay3 x0 x1 (ix2 (from512 r) d) * w (ix2 d j) := by
  have e := mixed_apply x0 x1 r
  generalize mixed x0 x1 = v at e ⊢
  pointwise [k0_pay17]
  simp only [e]

end Rows

/-! ## The stores -/

theorem inb_turned (a : Fin 4) : ∀ x, (![a.val, 0, 0] : Fin 3 → Nat) x + S1x2048x128.size x ≤ S4x2048x128.size x := fun x =>
  match x with
  | ⟨0, _⟩ => by show a.val + 1 ≤ 4; omega
  | ⟨1, _⟩ => by show 0 + 2048 ≤ 2048; omega
  | ⟨2, _⟩ => by show 0 + 128 ≤ 128; omega

theorem inb_rows (a : Fin 4) : ∀ x, (![128 * a.val, 0] : Fin 2 → Nat) x + S128x512.size x ≤ S512x512.size x := fun x =>
  match x with
  | ⟨0, _⟩ => by show 128 * a.val + 128 ≤ 512; omega
  | ⟨1, _⟩ => by show 0 + 512 ≤ 512; omega

/-- Chunk `a`'s store of a turned part. -/
abbrev turnedPiece (f : Fin 4 → FVec Ideal S128x2048 .f32) (a : Fin 4) : View.Piece (Elt Ideal) S4x2048x128 .f32 :=
  ⟨Rect.unit (s := S4x2048x128) ![a.val, 0, 0] S1x2048x128.size (inb_turned a), turned (f a)⟩

/-- Chunk `a`'s store of rows. -/
abbrev rowsPiece (f : Fin 4 → FVec Ideal S128x512 .f32) (a : Fin 4) : View.Piece (Elt Ideal) S512x512 .bf16 :=
  ⟨Rect.unit (s := S512x512) ![128 * a.val, 0] S128x512.size (inb_rows a), truncf .bf16 (f a) bitsLt_bf16_f32⟩

/-- The parts of each chunk that are stored. -/
abbrev gatePart (v : FVec Ideal S512x2048 .f32) (a : Fin 4) : FVec Ideal S128x2048 .f32 := extractStridedSlice S128x2048 ![128 * a.val, 0] v (slices_gate a)
abbrev xPart (f : Fin 4 → FVec Ideal S128x3072 .f32) (a : Fin 4) : FVec Ideal S128x2048 .f32 := extractStridedSlice S128x2048 ![0, 0] (f a) slices_S128x3072_o0_0_S128x2048
abbrev bPart (f : Fin 4 → FVec Ideal S128x3072 .f32) (a : Fin 4) : FVec Ideal S128x512 .f32 := extractStridedSlice S128x512 ![0, 2048] (f a) slices_S128x3072_o0_2048_S128x512
abbrev cPart (f : Fin 4 → FVec Ideal S128x3072 .f32) (a : Fin 4) : FVec Ideal S128x512 .f32 := extractStridedSlice S128x512 ![0, 2560] (f a) slices_S128x3072_o0_2560_S128x512

/-- A turned result's block. -/
def turnedBlock (f : Fin 4 → FVec Ideal S128x2048 .f32) : Vec Ideal S4x2048x128 .f32 := View.canon (([3, 2, 1, 0] : List (Fin 4)).map (turnedPiece f))

/-- A result's block of rows. -/
def rowsBlock (f : Fin 4 → FVec Ideal S128x512 .f32) : Vec Ideal S512x512 .bf16 := View.canon (([3, 2, 1, 0] : List (Fin 4)).map (rowsPiece f))

theorem turnedBlock_apply (f : Fin 4 → FVec Ideal S128x2048 .f32) (a : Fin 4) (j : Fin 2048) (r : Fin 128) : turnedBlock f (ix3 a j r) = f a (ix2 r j) := by
  unfold turnedBlock
  refine View.canon_apply_of_pieces (Val := Elt Ideal) (e := .f32) (fun y : S4x2048x128.Idx => f (y 0) (ix2 (y 2) (y 1))) _ (fun pc hpc => ?_) (ix3 a j r) ?_
  swap
  · exact View.cover_of_tiled (Val := Elt Ideal) (s := S4x2048x128) (e := .f32) _ S1x2048x128.size (by rfl) _
  obtain ⟨b, _, rfl⟩ := List.mem_map.mp hpc
  intro x
  obtain ⟨s, i, rfl⟩ : ∃ (s : Fin 2048) (i : Fin 128), x = ix3 0 s i :=
    ⟨x 1, x 2, funext fun u => match u with | ⟨0, _⟩ => Subsingleton.elim (α := Fin 1) _ _ | ⟨1, _⟩ => rfl | ⟨2, _⟩ => rfl⟩
  refine (turned_apply _ s i).trans ?_
  have e0 : ((Rect.unit (s := S4x2048x128) ![b.val, 0, 0] S1x2048x128.size (inb_turned b)).emb (ix3 0 s i) : S4x2048x128.Idx) = ix3 b s i :=
    funext fun u => Fin.ext (match u with
      | ⟨0, _⟩ => by show b.val + 1 * 0 = b.val; omega
      | ⟨1, _⟩ => by show 0 + 1 * s.val = s.val; omega
      | ⟨2, _⟩ => by show 0 + 1 * i.val = i.val; omega)
  rw [e0]
  rfl

theorem rowsBlock_apply (f : Fin 4 → FVec Ideal S128x512 .f32) (r : Fin 512) (j : Fin 512) :
    rowsBlock f (ix2 r j) = f ⟨r.val / 128, by omega⟩ (ix2 ⟨r.val % 128, by omega⟩ j) := by
  unfold rowsBlock
  refine View.canon_apply_of_pieces (Val := Elt Ideal) (e := .bf16)
    (fun y : S512x512.Idx => f ⟨(y 0).val / 128, by have : (y 0).val < 512 := (y 0).isLt; omega⟩ (ix2 ⟨(y 0).val % 128, by omega⟩ (y 1))) _ (fun pc hpc => ?_) (ix2 r j) ?_
  swap
  · exact View.cover_of_tiled (Val := Elt Ideal) (s := S512x512) (e := .bf16) _ S128x512.size (by rfl) _
  obtain ⟨b, _, rfl⟩ := List.mem_map.mp hpc
  intro x
  obtain ⟨s, i, rfl⟩ : ∃ (s : Fin 128) (i : Fin 512), x = ix2 s i := ⟨x 0, x 1, funext fun u => match u with | ⟨0, _⟩ => rfl | ⟨1, _⟩ => rfl⟩
  have e0 : ((Rect.unit (s := S512x512) ![128 * b.val, 0] S128x512.size (inb_rows b)).emb (ix2 s i) : S512x512.Idx) = ix2 ⟨128 * b.val + s.val, by omega⟩ i :=
    funext fun u => Fin.ext (match u with
      | ⟨0, _⟩ => by show 128 * b.val + 1 * s.val = 128 * b.val + s.val; omega
      | ⟨1, _⟩ => by show 0 + 1 * i.val = i.val; omega)
  rw [e0]
  have eb : (⟨(128 * b.val + s.val) / 128, by omega⟩ : Fin 4) = b := Fin.ext (by show (128 * b.val + s.val) / 128 = b.val; omega)
  have es : (⟨(128 * b.val + s.val) % 128, by omega⟩ : Fin 128) = s := Fin.ext (by show (128 * b.val + s.val) % 128 = s.val; omega)
  show f b (ix2 s i) = f ⟨(128 * b.val + s.val) / 128, _⟩ (ix2 ⟨(128 * b.val + s.val) % 128, _⟩ i)
  rw [eb, es]

/-! ## A grid point's stores -/

theorem hz2 : (![0, 0] : Fin 2 → Nat) = fun _ => 0 := funext fun a => by fin_cases a <;> rfl

theorem left_eq (v : FVec Ideal S512x3072 .f32) : k0_pay1 (k0_pay56 (k0_pay49 v)) = lastRows (chunkOf v 3) := by
  funext x
  idx_vars x
  unfold lastRows chunkOf
  pointwise [k0_pay1, k0_pay56, k0_pay49]

section Stores

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S1024x5152 .bf16) (h3 : a3.IsWhole)
  (a4 : Memref sig .tc .vmem S1024x128 .bf16) (h4 : a4.IsWhole) (a5 : Memref sig .tc .vmem S4x3072 .f32) (h5 : a5.IsWhole)
  (a6 : Memref sig .tc .vmem S1x3072 .f32) (h6 : a6.IsWhole) (a7 : Memref sig .tc .vmem S4x2048x128 .f32) (h7 : a7.IsWhole)
  (a8 : Memref sig .tc .vmem S4x2048x128 .f32) (h8 : a8.IsWhole) (a9 : Memref sig .tc .vmem S512x512 .bf16) (h9 : a9.IsWhole)
  (a10 : Memref sig .tc .vmem S512x512 .bf16) (h10 : a10.IsWhole) (a11 : Memref sig .tc .vmem S512x128 .f32) (h11 : a11.IsWhole)
  (a12 : Memref sig .tc .vmem S24x3072 .f32) (h12 : a12.IsWhole)
  (x0 : Vec Ideal S512x1024 .f32) (x1 : Vec Ideal S1x1024 .f32) (x2 : Vec Ideal S1024x5152 .bf16) (x3 : Vec Ideal S1024x128 .bf16)
  (x4 : Vec Ideal S4x3072 .f32) (x5 : Vec Ideal S1x3072 .f32) (xs : Vec Ideal S24x3072 .f32)

/-- The block's rows before the convolution, and the gate's. -/
abbrev convRows : FVec Ideal S512x3072 .f32 := convIn x0 x1 (View.ld x2 (Rect.unit ![0, 2048] ![1024, 3072] inb_S1024x5152_S1024x3072_0_2048))
abbrev gateRows : FVec Ideal S512x2048 .f32 := gateIn x0 x1 (View.ld x2 (Rect.unit ![0, 0] ![1024, 2048] inb_S1024x5152_S1024x2048_0_0))

theorem gate_A (hc : cond0_0 i) :
    out0_A_6 c i a1 h1 a2 h2 a3 h3 a4 h4 a5 h5 a6 h6 a7 h7 a8 h8 a9 h9 a10 h10 a11 h11 a12 h12 hc x0 x1 x2 x3 x4 x5
      = turnedBlock (gatePart (gateRows x0 x1 x2)) := by
  unfold out0_A_6
  rw [View.read_writes_eq_canon _ _ _ (cover0_A_6 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem xs_A (hc : cond0_0 i) :
    out0_A_7 c i a1 h1 a2 h2 a3 h3 a4 h4 a5 h5 a6 h6 a7 h7 a8 h8 a9 h9 a10 h10 a11 h11 a12 h12 hc x0 x1 x2 x3 x4 x5
      = turnedBlock (xPart (actOf (convRows x0 x1 x2) x4 x5 (k0_pay2 (F := Ideal)))) := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readCov_unit_zero (S := S24x3072) _ hz2, View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem b_A (hc : cond0_0 i) :
    out0_A_8 c i a1 h1 a2 h2 a3 h3 a4 h4 a5 h5 a6 h6 a7 h7 a8 h8 a9 h9 a10 h10 a11 h11 a12 h12 hc x0 x1 x2 x3 x4 x5
      = rowsBlock (bPart (actOf (convRows x0 x1 x2) x4 x5 (k0_pay2 (F := Ideal)))) := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readCov_unit_zero (S := S24x3072) _ hz2, View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem c_A (hc : cond0_0 i) :
    out0_A_9 c i a1 h1 a2 h2 a3 h3 a4 h4 a5 h5 a6 h6 a7 h7 a8 h8 a9 h9 a10 h10 a11 h11 a12 h12 hc x0 x1 x2 x3 x4 x5
      = rowsBlock (cPart (actOf (convRows x0 x1 x2) x4 x5 (k0_pay2 (F := Ideal)))) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readCov_unit_zero (S := S24x3072) _ hz2, View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem dt_A (hc : cond0_0 i) :
    out0_A_10 c i a1 h1 a2 h2 a3 h3 a4 h4 a5 h5 a6 h6 a7 h7 a8 h8 a9 h9 a10 h10 a11 h11 a12 h12 hc x0 x1 x2 x3 x4 x5
      = k0_pay17 (mixed x0 x1) x3 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem left_A (hc : cond0_0 i) :
    sout0_A_0 c i a1 h1 a2 h2 a3 h3 a4 h4 a5 h5 a6 h6 a7 h7 a8 h8 a9 h9 a10 h10 a11 h11 a12 h12 hc x0 x1 x2 x3 x4 x5
      = lastRows (chunkOf (convRows x0 x1 x2) 3) := by
  unfold sout0_A_0
  rw [View.read_writes_eq_canon _ _ _ (scover0_A_0 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero hz2]
  simp only [View.readCov_unit_zero (S := S24x3072) _ hz2, View.readAt_eq_ld, h1.read_unread, h2.read_unread, h3.read_unread, h4.read_unread, h5.read_unread, h6.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  exact left_eq _

theorem gate_B (hc : ¬cond0_0 i) :
    out0_B_6 c i a1 h1 a2 h2 a3 h3 a4 h4 a5 h5 a6 h6 a7 h7 a8 h8 a9 h9 a10 h10 a11 h11 a12 h12 hc x0 x1 x2 x3 x4 x5 xs
      = turnedBlock (gatePart (gateRows x0 x1 x2)) := by
  unfold out0_B_6
  rw [View.read_writes_eq_canon _ _ _ (cover0_B_6 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem xs_B (hc : ¬cond0_0 i) :
    out0_B_7 c i a1 h1 a2 h2 a3 h3 a4 h4 a5 h5 a6 h6 a7 h7 a8 h8 a9 h9 a10 h10 a11 h11 a12 h12 hc x0 x1 x2 x3 x4 x5 xs
      = turnedBlock (xPart (actOf (convRows x0 x1 x2) x4 x5 xs)) := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem b_B (hc : ¬cond0_0 i) :
    out0_B_8 c i a1 h1 a2 h2 a3 h3 a4 h4 a5 h5 a6 h6 a7 h7 a8 h8 a9 h9 a10 h10 a11 h11 a12 h12 hc x0 x1 x2 x3 x4 x5 xs
      = rowsBlock (bPart (actOf (convRows x0 x1 x2) x4 x5 xs)) := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem c_B (hc : ¬cond0_0 i) :
    out0_B_9 c i a1 h1 a2 h2 a3 h3 a4 h4 a5 h5 a6 h6 a7 h7 a8 h8 a9 h9 a10 h10 a11 h11 a12 h12 hc x0 x1 x2 x3 x4 x5 xs
      = rowsBlock (cPart (actOf (convRows x0 x1 x2) x4 x5 xs)) := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem dt_B (hc : ¬cond0_0 i) :
    out0_B_10 c i a1 h1 a2 h2 a3 h3 a4 h4 a5 h5 a6 h6 a7 h7 a8 h8 a9 h9 a10 h10 a11 h11 a12 h12 hc x0 x1 x2 x3 x4 x5 xs
      = k0_pay17 (mixed x0 x1) x3 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  rw [View.canon_unit_zero hz2]
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  rfl

theorem left_B (hc : ¬cond0_0 i) :
    sout0_B_0 c i a1 h1 a2 h2 a3 h3 a4 h4 a5 h5 a6 h6 a7 h7 a8 h8 a9 h9 a10 h10 a11 h11 a12 h12 hc x0 x1 x2 x3 x4 x5 xs
      = lastRows (chunkOf (convRows x0 x1 x2) 3) := by
  unfold sout0_B_0
  rw [View.read_writes_eq_canon _ _ _ (scover0_B_0 c i a1 h1 a2 h2 a3 h3 a4 h4 a5 h5 a6 h6 a7 h7 a8 h8 a9 h9 a10 h10 a11 h11 a12 h12 hc x0 x1 x2 x3 x4 x5 xs)]
  unfold kernelRun0_B
  dsimp only
  sl_unfold_words
  rw [View.canon_unit_zero hz2]
  simp only [View.readAt_eq_ld, h1.read_unread, h2.read_unread, h3.read_unread, h4.read_unread, h5.read_unread, h6.read_unread, h12.read_unread,
    View.ld_unit_zero (S := S512x1024) hz2, View.ld_unit_zero (S := S1x1024) hz2, View.ld_unit_zero (S := S4x3072) hz2, View.ld_unit_zero (S := S1x3072) hz2, View.ld_unit_zero (S := S1024x128) hz2, View.ld_unit_zero (S := S24x3072) hz2]
  exact left_eq _

end Stores

end Cert.Proof.InProj

end
-- ==== Proof.InProj.Kernel.lean ====
/-
  The state-space mixer's inputs, from the kernel's result arrays: each entry is the mathematics over the call's
  arguments.
-/
module

public import proofs.«01_k».proof.Proof.InProj.Stores
public import Idealize.ShloMosaic.Lib.StableHlo.ReadAt

@[expose] public section

set_option maxRecDepth 16384

noncomputable section

namespace Cert.Proof.InProj

open Idealize.ShloMosaic Idealize.ShloMosaic.TcCoe Idealize.SL.Sem
open Cert.InProjIdeal Cert.InProjIdeal.Gen Cert.InProjIdeal.Value
open scoped BigOperators

/-! ## A block's stores, as rows -/

/-- Position `R` of block `t`, and chunk `a` of it. -/
abbrev row (t : Fin 64) (R : Fin 512) : Fin 32768 := ⟨512 * t.val + R.val, by omega⟩
abbrev chunk (t : Fin 64) (a : Fin 4) : Fin 256 := ⟨4 * t.val + a.val, by omega⟩

theorem row_from512 (t : Fin 64) (a : Fin 4) (r : Fin 128) : row t (from512 ⟨128 * a.val + r.val, by omega⟩) = step (chunk t a) r := by
  refine Fin.ext ?_
  show 512 * t.val + (128 * ((128 * a.val + r.val) / 128) + ((128 * a.val + r.val) % 128 / 8 + 16 * ((128 * a.val + r.val) % 128 % 8)))
    = 128 * (4 * t.val + a.val) + (r.val / 8 + 16 * (r.val % 8))
  have h1 : (128 * a.val + r.val) / 128 = a.val := by omega
  have h2 : (128 * a.val + r.val) % 128 = r.val := by omega
  rw [h1, h2]
  omega

theorem lastRows_apply (u : FVec Ideal S128x3072 .f32) (r : Fin 24) (j : Fin 3072) : lastRows u (ix2 r j) = u (ix2 ⟨104 + r.val, by omega⟩ j) := by
  unfold lastRows
  pointwise

section Block

variable (D : Data) (t : Fin 64) {x0 : Vec Ideal S512x1024 .f32} {x1 : Vec Ideal S1x1024 .f32} {x2 : Vec Ideal S1024x5152 .bf16} {x3 : Vec Ideal S1024x128 .bf16}
  {x4 : Vec Ideal S4x3072 .f32} {x5 : Vec Ideal S1x3072 .f32} {p : Vec Ideal S24x3072 .f32}
variable (hn : ∀ R d, k0_pay3 x0 x1 (ix2 R d) = D.xn (row t R) d) (h2 : ∀ d j, x2 (ix2 d j) = D.w d j)

include hn h2

theorem conv_row (a : Fin 4) (r : Fin 128) (j : Fin 3072) : chunkOf (convRows x0 x1 x2) a (ix2 r j) = D.u (step (chunk t a) r) (ccol j) := by
  have e : chunkOf (convRows x0 x1 x2) a (ix2 r j) = convRows x0 x1 x2 (ix2 ⟨128 * a.val + r.val, by omega⟩ j) :=
    congrArg (convRows x0 x1 x2) (funext fun x => Fin.ext (match x with | ⟨0, _⟩ => rfl | ⟨1, _⟩ => by show 0 + j.val = j.val; omega))
  refine e.trans ((convIn_apply x0 x1 _ _ _).trans ?_)
  refine Finset.sum_congr rfl fun d _ => ?_
  rw [hn, row_from512]
  refine congrArg (D.xn (step (chunk t a) r) d * ·) (Eq.trans ?_ (h2 d (ccol j)))
  exact congrArg x2 (funext fun x => Fin.ext (match x with
    | ⟨0, _⟩ => by show 0 + 1 * d.val = d.val; omega
    | ⟨1, _⟩ => by show 2048 + 1 * j.val = 2048 + j.val; omega))

theorem gate_row (a : Fin 4) (r : Fin 128) (j : Fin 2048) : gatePart (gateRows x0 x1 x2) a (ix2 r j) = gateH (half * D.u (step (chunk t a) r) (zcol j)) := by
  have e : gatePart (gateRows x0 x1 x2) a (ix2 r j) = gateRows x0 x1 x2 (ix2 ⟨128 * a.val + r.val, by omega⟩ j) :=
    congrArg (gateRows x0 x1 x2) (funext fun x => Fin.ext (match x with | ⟨0, _⟩ => rfl | ⟨1, _⟩ => by show 0 + j.val = j.val; omega))
  refine e.trans ((gateIn_apply x0 x1 _ _ _).trans (congrArg (fun y => gateH (half * y)) ?_))
  refine Finset.sum_congr rfl fun d _ => ?_
  rw [hn, row_from512]
  refine congrArg (D.xn (step (chunk t a) r) d * ·) (Eq.trans ?_ (h2 d (zcol j)))
  exact congrArg x2 (funext fun x => Fin.ext (match x with
    | ⟨0, _⟩ => by show 0 + 1 * d.val = d.val; omega
    | ⟨1, _⟩ => by show 0 + 1 * j.val = j.val; omega))

theorem last_row (a : Fin 4) (r : Fin 24) (j : Fin 3072) :
    lastRows (chunkOf (convRows x0 x1 x2) a) (ix2 r j) = D.u (step (chunk t a) ⟨104 + r.val, by omega⟩) (ccol j) := by
  have e := conv_row D t hn h2 a ⟨104 + r.val, by omega⟩ j
  rw [lastRows_apply, e]

variable (hp : ∀ r j, p (ix2 r j) = carry D (chunk t 0) r j)

include hp

theorem prev_row (a : Fin 4) (r : Fin 24) (j : Fin 3072) : prevOf (convRows x0 x1 x2) p a (ix2 r j) = carry D (chunk t a) r j := by
  match a with
  | ⟨0, _⟩ => exact hp r j
  | ⟨k + 1, hk⟩ =>
    refine (last_row D t hn h2 ⟨k, by omega⟩ r j).trans ?_
    unfold carry
    rw [if_neg (show ¬(4 * t.val + (k + 1)) % 16 = 0 by omega)]
    refine congrArg (fun q => D.u (step q ⟨104 + r.val, by omega⟩) (ccol j)) (Fin.ext ?_)
    show 4 * t.val + k = 4 * t.val + (k + 1) - 1
    omega

variable (h4 : ∀ s j, x4 (ix2 s j) = D.cw s j) (h5 : ∀ j, x5 (ix2 0 j) = D.cb j)

include h4 h5

theorem act_row (a : Fin 4) (r : Fin 128) (j : Fin 3072) : actOf (convRows x0 x1 x2) x4 x5 p a (ix2 r j) = gateH (D.cvK (step (chunk t a) r) j) :=
  convAct_row (prev_row D t hn h2 hp a) (conv_row D t hn h2 a) h4 h5 r j

end Block

/-! ## The staged blocks -/

variable (m : (ℓ : Loc nD τ sig) → Buf (Elt Ideal) ℓ) (c : Dev nD)

/-- The operands, out of the call's arguments. -/
def args : Data where
  h n d := m ((c : Thread nD τ).loc main_arg0) (ix2 n d)
  g d := m ((c : Thread nD τ).loc main_arg1) (ix2 0 d)
  w d j := m ((c : Thread nD τ).loc main_arg2) (ix3 0 d j)
  cw s j := m ((c : Thread nD τ).loc main_arg3) (ix3 0 s j)
  cb j := m ((c : Thread nD τ).loc main_arg4) (ix2 0 j)

/-- A grid point as a block number. -/
abbrev pt (t : Fin cfg0.N) : Fin 64 := ⟨t.val, lt_of_lt_of_eq t.isLt N_0⟩

theorem blk0 (t : Fin cfg0.N) (r : Fin 512) (k : Fin 1024) : iblk m c 0 t (ix2 r k) = (args m c).h (row (pt t) r) k := by
  have hi := (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; omega
  | ⟨1, _⟩ => show win0_0.index t 1 * 1024 + 1 * k.val = k.val; omega

theorem blk1 (t : Fin cfg0.N) (d : Fin 1024) : iblk m c 1 t (ix2 0 d) = (args m c).g d := by
  have hi := (by decide +kernel : ∀ t : Fin grid0.N, win0_1.index t 0 = 0 ∧ win0_1.index t 1 = 0) t
  unfold iblk
  rw [View.read_apply]
  show V m c main_v10 _ = _
  refine (congrArg (V m c main_v10) (funext fun a => Fin.ext ?_ : _ = (ix2 0 d : S1x1024.Idx))).trans ?_
  · match a with
    | ⟨0, _⟩ => show win0_1.index t 0 * 1 + 1 * 0 = 0; omega
    | ⟨1, _⟩ => show win0_1.index t 1 * 1024 + 1 * d.val = d.val; omega
  · unfold V
    after_reads_at
    pointwise
    rfl

theorem blk2 (t : Fin cfg0.N) (d : Fin 1024) (j : Fin 5152) : iblk m c 2 t (ix2 d j) = (args m c).w d j := by
  have hi := (by decide +kernel : ∀ t : Fin grid0.N, win0_2.index t 0 = 0 ∧ win0_2.index t 1 = 0) t
  unfold iblk
  rw [View.read_apply]
  show V m c main_v6 _ = _
  refine (congrArg (V m c main_v6) (funext fun a => Fin.ext ?_ : _ = (ix2 d j : S1024x5152.Idx))).trans ?_
  · match a with
    | ⟨0, _⟩ => show win0_2.index t 0 * 1024 + 1 * d.val = d.val; omega
    | ⟨1, _⟩ => show win0_2.index t 1 * 5152 + 1 * j.val = j.val; omega
  · unfold V
    after_reads_at
    pointwise
    rfl

/-- The step sizes' columns, padded with zeros. -/
theorem blk3 (t : Fin cfg0.N) (d : Fin 1024) (j : Fin 128) :
    iblk m c 3 t (ix2 d j) = if h : j.val < 32 then (args m c).w d (dcol ⟨j.val, h⟩) else 0 := by
  have hi := (by decide +kernel : ∀ t : Fin grid0.N, win0_3.index t 0 = 0 ∧ win0_3.index t 1 = 0) t
  unfold iblk
  rw [View.read_apply]
  show V m c main_v3 _ = _
  refine (congrArg (V m c main_v3) (funext fun a => Fin.ext ?_ : _ = (ix2 d j : S1024x128.Idx))).trans ?_
  · match a with
    | ⟨0, _⟩ => show win0_3.index t 0 * 1024 + 1 * d.val = d.val; omega
    | ⟨1, _⟩ => show win0_3.index t 1 * 128 + 1 * j.val = j.val; omega
  · unfold V
    after_reads_at
    pointwise
    rw [show (FloatOps.sitofp .bf16 0#32 : Ideal .bf16) = (0 : EReal) from by show (((0#32 : BitVec 32).toInt : ℝ) : EReal) = 0; simp]
    rfl

theorem blk4 (t : Fin cfg0.N) (s : Fin 4) (j : Fin 3072) : iblk m c 4 t (ix2 s j) = (args m c).cw s j := by
  have hi := (by decide +kernel : ∀ t : Fin grid0.N, win0_4.index t 0 = 0 ∧ win0_4.index t 1 = 0) t
  unfold iblk
  rw [View.read_apply]
  show V m c main_v7 _ = _
  refine (congrArg (V m c main_v7) (funext fun a => Fin.ext ?_ : _ = (ix2 s j : S4x3072.Idx))).trans ?_
  · match a with
    | ⟨0, _⟩ => show win0_4.index t 0 * 4 + 1 * s.val = s.val; omega
    | ⟨1, _⟩ => show win0_4.index t 1 * 3072 + 1 * j.val = j.val; omega
  · unfold V
    after_reads_at
    pointwise
    rfl

theorem blk5 (t : Fin cfg0.N) (j : Fin 3072) : iblk m c 5 t (ix2 0 j) = (args m c).cb j := by
  have hi := (by decide +kernel : ∀ t : Fin grid0.N, win0_5.index t 0 = 0 ∧ win0_5.index t 1 = 0) t
  unfold iblk
  rw [View.read_apply]
  show V m c main_v9 _ = _
  refine (congrArg (V m c main_v9) (funext fun a => Fin.ext ?_ : _ = (ix2 0 j : S1x3072.Idx))).trans ?_
  · match a with
    | ⟨0, _⟩ => show win0_5.index t 0 * 1 + 1 * 0 = 0; omega
    | ⟨1, _⟩ => show win0_5.index t 1 * 3072 + 1 * j.val = j.val; omega
  · unfold V
    after_reads_at
    pointwise
    rfl

/-! ## A grid point's stores -/

/-- The normalized rows. -/
theorem xn_row (t : Fin cfg0.N) (r : Fin 512) (d : Fin 1024) : k0_pay3 (iblk m c 0 t) (iblk m c 1 t) (ix2 r d) = (args m c).xn (row (pt t) r) d := by
  pointwise [k0_pay3]
  simp only [blk0, blk1]
  rfl

/-- What a point leaves for the next. -/
theorem left_row (t : Fin cfg0.N) (r : Fin 24) (j : Fin 3072) :
    (outsAt0 m c t.val t.isLt).2.2.2.2.2 (ix2 r j) = (args m c).u (step (chunk (pt t) 3) ⟨104 + r.val, by omega⟩) (ccol j) := by
  by_cases h0 : t.val % 4 = 0
  · rw [outsAt0_A m c t h0]
    dsimp only
    rw [left_A]
    exact last_row _ _ (xn_row m c t) (blk2 m c t) 3 r j
  · rw [outsAt0_B m c t h0]
    dsimp only
    rw [left_B]
    exact last_row _ _ (xn_row m c t) (blk2 m c t) 3 r j

/-- What a point writes, over the rows the point before left. -/
theorem outs (t : Fin cfg0.N) : ∃ p : Vec Ideal S24x3072 .f32, (∀ r j, p (ix2 r j) = carry (args m c) (chunk (pt t) 0) r j)
    ∧ (outsAt0 m c t.val t.isLt).1 = turnedBlock (gatePart (gateRows (iblk m c 0 t) (iblk m c 1 t) (iblk m c 2 t)))
    ∧ (outsAt0 m c t.val t.isLt).2.1 = turnedBlock (xPart (actOf (convRows (iblk m c 0 t) (iblk m c 1 t) (iblk m c 2 t)) (iblk m c 4 t) (iblk m c 5 t) p))
    ∧ (outsAt0 m c t.val t.isLt).2.2.1 = rowsBlock (bPart (actOf (convRows (iblk m c 0 t) (iblk m c 1 t) (iblk m c 2 t)) (iblk m c 4 t) (iblk m c 5 t) p))
    ∧ (outsAt0 m c t.val t.isLt).2.2.2.1 = rowsBlock (cPart (actOf (convRows (iblk m c 0 t) (iblk m c 1 t) (iblk m c 2 t)) (iblk m c 4 t) (iblk m c 5 t) p))
    ∧ (outsAt0 m c t.val t.isLt).2.2.2.2.1 = k0_pay17 (mixed (iblk m c 0 t) (iblk m c 1 t)) (iblk m c 3 t) := by
  have ht : t.val < 64 := lt_of_lt_of_eq t.isLt N_0
  by_cases h0 : t.val % 4 = 0
  · refine ⟨k0_pay2 (F := Ideal), fun r j => ?_, ?_⟩
    · unfold carry
      rw [if_pos (show (chunk (pt t) 0).val % 16 = 0 by show (4 * t.val + 0) % 16 = 0; omega)]
      pointwise [k0_pay2]
    · rw [outsAt0_A m c t h0]
      dsimp only
      exact ⟨gate_A .., xs_A .., b_A .., c_A .., dt_A ..⟩
  · refine ⟨(outsAt0 m c (t.val - 1) (Nat.lt_of_le_of_lt (Nat.sub_le _ _) t.isLt)).2.2.2.2.2, fun r j => ?_, ?_⟩
    · unfold carry
      rw [if_neg (show ¬(chunk (pt t) 0).val % 16 = 0 by show ¬(4 * t.val + 0) % 16 = 0; omega)]
      refine (left_row m c ⟨t.val - 1, Nat.lt_of_le_of_lt (Nat.sub_le _ _) t.isLt⟩ r j).trans
        (congrArg (fun q => (args m c).u (step q ⟨104 + r.val, by omega⟩) (ccol j)) (Fin.ext ?_))
      show 4 * (t.val - 1) + 3 = 4 * t.val + 0 - 1
      omega
    · rw [outsAt0_B m c t h0]
      dsimp only
      exact ⟨gate_B .., xs_B .., b_B .., c_B .., dt_B ..⟩

theorem zg_row (t : Fin cfg0.N) (a : Fin 4) (j : Fin 2048) (r : Fin 128) :
    (outsAt0 m c t.val t.isLt).1 (ix3 a j r) = gateH (half * (args m c).u (step (chunk (pt t) a) r) (zcol j)) := by
  obtain ⟨p, _, h, _⟩ := outs m c t
  rw [h, turnedBlock_apply]
  exact gate_row _ _ (xn_row m c t) (blk2 m c t) a r j

theorem xs_row (t : Fin cfg0.N) (a : Fin 4) (j : Fin 2048) (r : Fin 128) :
    (outsAt0 m c t.val t.isLt).2.1 (ix3 a j r) = gateH ((args m c).cvK (step (chunk (pt t) a) r) ⟨j.val, by omega⟩) := by
  obtain ⟨p, hp, _, h, _⟩ := outs m c t
  rw [h, turnedBlock_apply]
  refine Eq.trans ?_ (act_row _ _ (xn_row m c t) (blk2 m c t) hp (blk4 m c t) (blk5 m c t) a r ⟨j.val, by omega⟩)
  exact congrArg (actOf _ _ _ p a) (funext fun x => Fin.ext (match x with | ⟨0, _⟩ => by show 0 + r.val = r.val; omega | ⟨1, _⟩ => by show 0 + j.val = j.val; omega))

theorem b_row (t : Fin cfg0.N) (R : Fin 512) (j : Fin 512) :
    (outsAt0 m c t.val t.isLt).2.2.1 (ix2 R j)
      = gateH ((args m c).cvK (step (chunk (pt t) ⟨R.val / 128, by omega⟩) ⟨R.val % 128, by omega⟩) ⟨2048 + j.val, by omega⟩) := by
  obtain ⟨p, hp, _, _, h, _⟩ := outs m c t
  rw [h, rowsBlock_apply]
  refine Eq.trans ?_ (act_row _ _ (xn_row m c t) (blk2 m c t) hp (blk4 m c t) (blk5 m c t) ⟨R.val / 128, by omega⟩ ⟨R.val % 128, by omega⟩ ⟨2048 + j.val, by omega⟩)
  exact congrArg (actOf _ _ _ p ⟨R.val / 128, by omega⟩) (funext fun x => Fin.ext (match x with | ⟨0, _⟩ => by show 0 + R.val % 128 = R.val % 128; omega | ⟨1, _⟩ => rfl))

theorem c_row (t : Fin cfg0.N) (R : Fin 512) (j : Fin 512) :
    (outsAt0 m c t.val t.isLt).2.2.2.1 (ix2 R j)
      = gateH ((args m c).cvK (step (chunk (pt t) ⟨R.val / 128, by omega⟩) ⟨R.val % 128, by omega⟩) ⟨2560 + j.val, by omega⟩) := by
  obtain ⟨p, hp, _, _, _, h, _⟩ := outs m c t
  rw [h, rowsBlock_apply]
  refine Eq.trans ?_ (act_row _ _ (xn_row m c t) (blk2 m c t) hp (blk4 m c t) (blk5 m c t) ⟨R.val / 128, by omega⟩ ⟨R.val % 128, by omega⟩ ⟨2560 + j.val, by omega⟩)
  exact congrArg (actOf _ _ _ p ⟨R.val / 128, by omega⟩) (funext fun x => Fin.ext (match x with | ⟨0, _⟩ => by show 0 + R.val % 128 = R.val % 128; omega | ⟨1, _⟩ => rfl))

theorem dt_row (t : Fin cfg0.N) (R : Fin 512) (j : Fin 128) :
    (outsAt0 m c t.val t.isLt).2.2.2.2.1 (ix2 R j) = (args m c).dt (step (chunk (pt t) ⟨R.val / 128, by omega⟩) ⟨R.val % 128, by omega⟩) j := by
  obtain ⟨p, _, _, _, _, _, h⟩ := outs m c t
  rw [h, dt_apply]
  simp only [xn_row, blk3]
  have e : row (pt t) (from512 R) = step (chunk (pt t) ⟨R.val / 128, by omega⟩) ⟨R.val % 128, by omega⟩ := by
    rw [← row_from512]
    exact congrArg (fun k => row (pt t) (from512 k)) (Fin.ext (by show R.val = 128 * (R.val / 128) + R.val % 128; omega))
  rw [e]
  unfold Data.dt
  split
  · rfl
  · simp

/-! ## The result arrays -/

theorem result_zg (q : Fin 256) (j : Fin 2048) (r : Fin 128) : G6 m c (ix3 q j r) = gateH (half * (args m c).u (step q r) (zcol j)) := by
  have hN : cfg0.N = 64 := N_0
  have e : pt6Of (ix3 q j r) = q.val / 4 := by
    show 1 * (q.val / 4 - 0) + 1 * (j.val / 2048 - 0) + 1 * (r.val / 128 - 0) = q.val / 4
    omega
  unfold G6
  rw [dif_pos (by rw [e]; omega)]
  refine (congrFun (congrArg (fun o => o.1) (outsAt0_sweep m c (pt6Of (ix3 q j r)) (by rw [e]; omega)).symm) (loc6Of (ix3 q j r))).trans ?_
  have ho := zg_row m c ⟨pt6Of (ix3 q j r), by rw [e]; omega⟩ ⟨q.val % 4, by omega⟩ j r
  refine (congrArg _ (funext fun a => Fin.ext ?_)).trans (ho.trans (congrArg (fun k => gateH (half * (args m c).u (step k r) (zcol j))) (Fin.ext ?_)))
  · match a with
    | ⟨0, _⟩ => rfl
    | ⟨1, _⟩ => show j.val % 2048 = j.val; omega
    | ⟨2, _⟩ => show r.val % 128 = r.val; omega
  · show 4 * pt6Of (ix3 q j r) + q.val % 4 = q.val
    rw [e]
    omega

theorem result_xs (q : Fin 256) (j : Fin 2048) (r : Fin 128) : G7 m c (ix3 q j r) = gateH ((args m c).cvK (step q r) ⟨j.val, by omega⟩) := by
  have hN : cfg0.N = 64 := N_0
  have e : pt7Of (ix3 q j r) = q.val / 4 := by
    show 1 * (q.val / 4 - 0) + 1 * (j.val / 2048 - 0) + 1 * (r.val / 128 - 0) = q.val / 4
    omega
  unfold G7
  rw [dif_pos (by rw [e]; omega)]
  refine (congrFun (congrArg (fun o => o.2.1) (outsAt0_sweep m c (pt7Of (ix3 q j r)) (by rw [e]; omega)).symm) (loc7Of (ix3 q j r))).trans ?_
  have ho := xs_row m c ⟨pt7Of (ix3 q j r), by rw [e]; omega⟩ ⟨q.val % 4, by omega⟩ j r
  refine (congrArg _ (funext fun a => Fin.ext ?_)).trans (ho.trans (congrArg (fun k => gateH ((args m c).cvK (step k r) ⟨j.val, by omega⟩)) (Fin.ext ?_)))
  · match a with
    | ⟨0, _⟩ => rfl
    | ⟨1, _⟩ => show j.val % 2048 = j.val; omega
    | ⟨2, _⟩ => show r.val % 128 = r.val; omega
  · show 4 * pt7Of (ix3 q j r) + q.val % 4 = q.val
    rw [e]
    omega

/-- Position `n` of the whole is position `n % 512` of block `n / 512`. -/
theorem chunk_of (n : Fin 32768) (k : Fin 64) (hk : k.val = n.val / 512) :
    step (chunk k ⟨n.val % 512 / 128, by omega⟩) ⟨n.val % 512 % 128, by omega⟩ = step ⟨n.val / 128, by omega⟩ ⟨n.val % 128, by omega⟩ := by
  have e1 : 4 * k.val + n.val % 512 / 128 = n.val / 128 := by omega
  have e2 : n.val % 512 % 128 = n.val % 128 := by omega
  refine Fin.ext ?_
  show 128 * (4 * k.val + n.val % 512 / 128) + (n.val % 512 % 128 / 8 + 16 * (n.val % 512 % 128 % 8)) = 128 * (n.val / 128) + (n.val % 128 / 8 + 16 * (n.val % 128 % 8))
  rw [e1, e2]

theorem result_b (n : Fin 32768) (j : Fin 512) :
    G8 m c (ix2 n j) = gateH ((args m c).cvK (step ⟨n.val / 128, by omega⟩ ⟨n.val % 128, by omega⟩) ⟨2048 + j.val, by omega⟩) := by
  have hN : cfg0.N = 64 := N_0
  have e : pt8Of (ix2 n j) = n.val / 512 := by
    show 1 * (n.val / 512 - 0) + 1 * (j.val / 512 - 0) = n.val / 512
    omega
  unfold G8
  rw [dif_pos (by rw [e]; omega)]
  refine (congrFun (congrArg (fun o => o.2.2.1) (outsAt0_sweep m c (pt8Of (ix2 n j)) (by rw [e]; omega)).symm) (loc8Of (ix2 n j))).trans ?_
  have ho := b_row m c ⟨pt8Of (ix2 n j), by rw [e]; omega⟩ ⟨n.val % 512, by omega⟩ j
  refine (congrArg _ (funext fun a => Fin.ext ?_)).trans (ho.trans (congrArg (fun k => gateH ((args m c).cvK k ⟨2048 + j.val, by omega⟩)) (chunk_of n _ e)))
  match a with
  | ⟨0, _⟩ => rfl
  | ⟨1, _⟩ => show j.val % 512 = j.val; omega

theorem result_c (n : Fin 32768) (j : Fin 512) :
    G9 m c (ix2 n j) = gateH ((args m c).cvK (step ⟨n.val / 128, by omega⟩ ⟨n.val % 128, by omega⟩) ⟨2560 + j.val, by omega⟩) := by
  have hN : cfg0.N = 64 := N_0
  have e : pt9Of (ix2 n j) = n.val / 512 := by
    show 1 * (n.val / 512 - 0) + 1 * (j.val / 512 - 0) = n.val / 512
    omega
  unfold G9
  rw [dif_pos (by rw [e]; omega)]
  refine (congrFun (congrArg (fun o => o.2.2.2.1) (outsAt0_sweep m c (pt9Of (ix2 n j)) (by rw [e]; omega)).symm) (loc9Of (ix2 n j))).trans ?_
  have ho := c_row m c ⟨pt9Of (ix2 n j), by rw [e]; omega⟩ ⟨n.val % 512, by omega⟩ j
  refine (congrArg _ (funext fun a => Fin.ext ?_)).trans (ho.trans (congrArg (fun k => gateH ((args m c).cvK k ⟨2560 + j.val, by omega⟩)) (chunk_of n _ e)))
  match a with
  | ⟨0, _⟩ => rfl
  | ⟨1, _⟩ => show j.val % 512 = j.val; omega

theorem result_dt (n : Fin 32768) (j : Fin 128) :
    G10 m c (ix2 n j) = (args m c).dt (step ⟨n.val / 128, by omega⟩ ⟨n.val % 128, by omega⟩) j := by
  have hN : cfg0.N = 64 := N_0
  have e : pt10Of (ix2 n j) = n.val / 512 := by
    show 1 * (n.val / 512 - 0) + 1 * (j.val / 128 - 0) = n.val / 512
    omega
  unfold G10
  rw [dif_pos (by rw [e]; omega)]
  refine (congrFun (congrArg (fun o => o.2.2.2.2.1) (outsAt0_sweep m c (pt10Of (ix2 n j)) (by rw [e]; omega)).symm) (loc10Of (ix2 n j))).trans ?_
  have ho := dt_row m c ⟨pt10Of (ix2 n j), by rw [e]; omega⟩ ⟨n.val % 512, by omega⟩ j
  refine (congrArg _ (funext fun a => Fin.ext ?_)).trans (ho.trans (congrArg (fun k => (args m c).dt k j) (chunk_of n _ e)))
  match a with
  | ⟨0, _⟩ => rfl
  | ⟨1, _⟩ => show j.val % 128 = j.val; omega

end Cert.Proof.InProj

end
-- ==== Proof.InProj.Pre.lean ====
/-
  The precondition of the call that makes a state-space mixer's inputs, read.
-/
module

public import proofs.«01_k».proof.Proof.InProj.Kernel
public import proofs.«01_k».proof.Proof.Common.Finite
public import proofs.«01_k».proof.Defs
public import proofs.«01_k».proof.Proof.Gen.Pre_finite4

@[expose] public section

set_option maxRecDepth 16384

noncomputable section

namespace Cert.Proof.InProj

open Idealize.ShloMosaic Idealize.ShloMosaic.TcCoe Idealize.SL.Sem
open Cert.InProjIdeal Cert.Proof.Reals

/-- Under the precondition the gates' arguments are real. -/
theorem finite_of_pre (m : (ℓ : Loc nD τ sig) → Buf (Elt Ideal) ℓ) (hpre : Pre_InProjIdeal_finite4 m) (c : Dev nD) : (args m c).Finite := by
  have h := congrFun (hpre c) (fun a => a.elim0)
  dsimp only [Cert.Pre_finite4.fn, Cert.Pre_finite4.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact {
    h := fun n d => all_real _ _ _ _ _ h0 (ix2 n d)
    g := fun d => all_real _ _ _ _ _ h1 (ix2 0 d)
    w := fun d j => all_real _ _ _ _ _ h2 (ix3 0 d j)
    cw := fun s j => all_real _ _ _ _ _ h3 (ix3 0 s j)
    cb := fun j => all_real _ _ _ _ _ h4 (ix2 0 j) }

end Cert.Proof.InProj

end
-- ==== Proof.InProj.Ref.lean ====
/-
  What the reference of a state-space mixer's first part computes, position by position of the call's layout.
-/
module

public import proofs.«01_k».proof.Proof.InProj.Model
public import proofs.«01_k».proof.Proof.Gen.InProjRefIdeal.Read
public import Idealize.ShloMosaic.Lib.Pointwise

@[expose] public section

set_option maxRecDepth 16384

noncomputable section

namespace Cert.Proof.InProj

open Idealize.ShloMosaic
open Cert.InProjRefIdeal Cert.InProjRefIdeal.Gen Cert.InProjRefIdeal.Read

/-- An array of steps cut into chunks of 128, each chunk's steps reordered to the call's layout. -/
theorem chunked_apply (n : ℕ) (v : FVec Ideal ⟨3, ![16, 2048, n]⟩ .f32)
    (h1 : Shape.ShapeCasts ⟨3, ![16, 2048, n]⟩ ⟨5, ![16, 16, 8, 16, n]⟩)
    (h2 : Shape.Transposes ⟨5, ![16, 16, 8, 16, n]⟩ [0, 1, 3, 2, 4] ⟨5, ![16, 16, 16, 8, n]⟩)
    (h3 : Shape.ShapeCasts ⟨5, ![16, 16, 16, 8, n]⟩ ⟨3, ![256, 128, n]⟩) (q : Fin 256) (r : Fin 128) (j : Fin n) :
    shapeCast ⟨3, ![256, 128, n]⟩ (transpose ⟨5, ![16, 16, 16, 8, n]⟩ [0, 1, 3, 2, 4] (shapeCast ⟨5, ![16, 16, 8, 16, n]⟩ v h1) h2) h3 (ix3 q r j)
      = v (ix3 ⟨q.val / 16, by omega⟩ ⟨128 * (q.val % 16) + (r.val / 8 + 16 * (r.val % 8)), by omega⟩ j) := by
  refine (shapeCast_apply _ h3 (ix3 q r j) (ix5 ⟨q.val / 16, by omega⟩ ⟨q.val % 16, by omega⟩ ⟨r.val / 8, by omega⟩ ⟨r.val % 8, by omega⟩ j) ?_).trans
    ((transpose_apply [0, 1, 3, 2, 4] _ h2 _ (ix5 ⟨q.val / 16, by omega⟩ ⟨q.val % 16, by omega⟩ ⟨r.val % 8, by omega⟩ ⟨r.val / 8, by omega⟩ j)
      (fun b => match b with | ⟨0, _⟩ => rfl | ⟨1, _⟩ => rfl | ⟨2, _⟩ => rfl | ⟨3, _⟩ => rfl | ⟨4, _⟩ => rfl)).trans (shapeCast_apply v h1 _ _ ?_))
  · rw [Shape.rowMajor_val_five, Shape.rowMajor_val_three]
    show (((q.val / 16 * 16 + q.val % 16) * 16 + r.val / 8) * 8 + r.val % 8) * n + j.val = (q.val * 128 + r.val) * n + j.val
    rw [show ((q.val / 16 * 16 + q.val % 16) * 16 + r.val / 8) * 8 + r.val % 8 = q.val * 128 + r.val by omega]
  · rw [Shape.rowMajor_val_five, Shape.rowMajor_val_three]
    show (q.val / 16 * 2048 + (128 * (q.val % 16) + (r.val / 8 + 16 * (r.val % 8)))) * n + j.val
      = (((q.val / 16 * 16 + q.val % 16) * 8 + r.val % 8) * 16 + r.val / 8) * n + j.val
    rw [show q.val / 16 * 2048 + (128 * (q.val % 16) + (r.val / 8 + 16 * (r.val % 8))) = ((q.val / 16 * 16 + q.val % 16) * 8 + r.val % 8) * 16 + r.val / 8 by omega]

variable (x0 : (⟨S32768x1024, .f32⟩ : BufTy).Contents (Elt Ideal)) (x1 : (⟨S1x1024, .f32⟩ : BufTy).Contents (Elt Ideal))
  (x2 : (⟨S1x1024x5152, .f32⟩ : BufTy).Contents (Elt Ideal)) (x3 : (⟨S1x4x3072, .f32⟩ : BufTy).Contents (Elt Ideal))
  (x4 : (⟨S1x3072, .f32⟩ : BufTy).Contents (Elt Ideal))

/-- The operands, out of the reference's arguments. -/
def refArgs : Data where
  h n d := x0 (ix2 n d)
  g d := x1 (ix2 0 d)
  w d j := x2 (ix3 0 d j)
  cw s j := x3 (ix3 0 s j)
  cb j := x4 (ix2 0 j)

/-- Step `s` of sequence `b`. -/
abbrev sstep (b : Fin 16) (s : Fin 2048) : Fin 32768 := ⟨b.val * 2048 + s.val, by omega⟩

theorem ref_xn (b : Fin 16) (s : Fin 2048) (d : Fin 1024) : val_main_v14 (F := Ideal) x0 x1 (ix3 b s d) = (refArgs x0 x1 x2 x3 x4).xn (sstep b s) d := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_u (b : Fin 16) (s : Fin 2048) (j : Fin 5152) : val_main_v16 (F := Ideal) x0 x1 x2 (ix3 b s j) = (refArgs x0 x1 x2 x3 x4).u (sstep b s) j := by
  pointwise [val_main_v16, val_main_v15]
  simp only [ref_xn x0 x1 x2 x3 x4]
  rfl

/-- The padded row `k` steps back. -/
theorem back_ref (A : Data) (b : Fin 16) (s : Fin 2048) (j : Fin 3072) (k : ℕ) (s' : Fin 2048) (j' : Fin 5152) (p : Prop) [Decidable p] (hp : p ↔ k ≤ s.val)
    (hs : k ≤ s.val → s'.val = s.val - k) (hj : j' = ccol j) (z : EReal) (hz : z = 0) :
    (if _h : p then A.u (sstep b s') j' else z) = A.back (sstep b s) k j := by
  have hb := b.isLt
  have hs2 := s.isLt
  subst hj
  unfold Data.back
  by_cases h : k ≤ s.val
  · rw [dif_pos (hp.2 h), if_neg (by show ¬(b.val * 2048 + s.val) % 2048 < k; omega)]
    refine congrArg (fun n => A.u n (ccol j)) (Fin.ext ?_)
    have := hs h
    show b.val * 2048 + s'.val = b.val * 2048 + s.val - k
    omega
  · rw [dif_neg (fun h' => h (hp.1 h')), if_pos (by show (b.val * 2048 + s.val) % 2048 < k; omega), hz]

/-- The padding's zero. -/
theorem sitofp_zero : FloatOps.sitofp (F := Ideal) FTy.f32 (0#32 : BitVec 32) = (0 : EReal) := by
  show (((0#32 : BitVec 32).toInt : ℝ) : EReal) = 0
  simp

theorem ref_cv (b : Fin 16) (s : Fin 2048) (j : Fin 3072) : val_main_v52 (F := Ideal) x0 x1 x2 x3 x4 (ix3 b s j) = (refArgs x0 x1 x2 x3 x4).cv (sstep b s) j := by
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v18, val_main_call0_v0, val_main_c]
  simp only [ref_u x0 x1 x2 x3 x4]
  unfold Data.cv
  refine congrArg₂ (· + ·) (congrArg₂ (· + ·) (congrArg₂ (· + ·) (congrArg₂ (· + ·) (congrArg (· * x3 (ix3 0 0 j)) ?_) (congrArg (· * x3 (ix3 0 1 j)) ?_))
    (congrArg (· * x3 (ix3 0 2 j)) ?_)) (congrArg (· * x3 (ix3 0 3 j)) ?_)) rfl
  · rw [sitofp_zero]
    exact back_ref (refArgs x0 x1 x2 x3 x4) b s j 3 ⟨s.val - 3, by omega⟩ (ccol j) (3 ≤ s.val ∧ s.val - 3 < 2048) (by omega) (fun _ => rfl) rfl 0 rfl
  · rw [sitofp_zero]
    exact back_ref (refArgs x0 x1 x2 x3 x4) b s j 2 ⟨1 + s.val - 3, by omega⟩ (ccol j) (3 ≤ 1 + s.val ∧ 1 + s.val - 3 < 2048) (by omega)
      (fun _ => by show 1 + s.val - 3 = s.val - 2; omega) rfl 0 rfl
  · rw [sitofp_zero]
    exact back_ref (refArgs x0 x1 x2 x3 x4) b s j 1 ⟨2 + s.val - 3, by omega⟩ (ccol j) (3 ≤ 2 + s.val ∧ 2 + s.val - 3 < 2048) (by omega)
      (fun _ => by show 2 + s.val - 3 = s.val - 1; omega) rfl 0 rfl
  · rfl

theorem ref_conv (b : Fin 16) (s : Fin 2048) (j : Fin 3072) :
    val_main_v53 (F := Ideal) x0 x1 x2 x3 x4 (ix3 b s j) = (refArgs x0 x1 x2 x3 x4).cv (sstep b s) j * Ideal.logistic ((refArgs x0 x1 x2 x3 x4).cv (sstep b s) j) := by
  pointwise [val_main_v53, val_main_call1_v5, val_main_call1_v4, val_main_call1_v3, val_main_call1_v2, val_main_call1_v1, val_main_call1_v0, val_main_call1_cst,
    val_main_call1_cst_0]
  simp only [ref_cv x0 x1 x2 x3 x4]
  rfl

/-- The convolved part's columns: the inputs, and the two projections of the state. -/
theorem ref_v55 (b : Fin 16) (s : Fin 2048) (j : Fin 2048) : val_main_v55 (F := Ideal) x0 x1 x2 x3 x4 (ix3 b s j)
    = (refArgs x0 x1 x2 x3 x4).cv (sstep b s) ⟨j.val, by omega⟩ * Ideal.logistic ((refArgs x0 x1 x2 x3 x4).cv (sstep b s) ⟨j.val, by omega⟩) := by
  rw [val_main_v55_apply, show idx_main_v55 (ix3 b s j) = (ix3 b s ⟨j.val, by omega⟩ : S16x2048x3072.Idx) from
    funext fun a => match a with | ⟨0, _⟩ => rfl | ⟨1, _⟩ => rfl | ⟨2, _⟩ => rfl, ref_conv]

theorem ref_v56 (b : Fin 16) (s : Fin 2048) (j : Fin 512) : val_main_v56 (F := Ideal) x0 x1 x2 x3 x4 (ix3 b s j)
    = (refArgs x0 x1 x2 x3 x4).cv (sstep b s) ⟨2048 + j.val, by omega⟩ * Ideal.logistic ((refArgs x0 x1 x2 x3 x4).cv (sstep b s) ⟨2048 + j.val, by omega⟩) := by
  rw [val_main_v56_apply, show idx_main_v56 (ix3 b s j) = (ix3 b s ⟨2048 + j.val, by omega⟩ : S16x2048x3072.Idx) from
    funext fun a => match a with | ⟨0, _⟩ => rfl | ⟨1, _⟩ => rfl | ⟨2, _⟩ => rfl, ref_conv]

theorem ref_v57 (b : Fin 16) (s : Fin 2048) (j : Fin 512) : val_main_v57 (F := Ideal) x0 x1 x2 x3 x4 (ix3 b s j)
    = (refArgs x0 x1 x2 x3 x4).cv (sstep b s) ⟨2560 + j.val, by omega⟩ * Ideal.logistic ((refArgs x0 x1 x2 x3 x4).cv (sstep b s) ⟨2560 + j.val, by omega⟩) := by
  rw [val_main_v57_apply, show idx_main_v57 (ix3 b s j) = (ix3 b s ⟨2560 + j.val, by omega⟩ : S16x2048x3072.Idx) from
    funext fun a => match a with | ⟨0, _⟩ => rfl | ⟨1, _⟩ => rfl | ⟨2, _⟩ => rfl, ref_conv]

theorem ref_z (b : Fin 16) (s : Fin 2048) (j : Fin 2048) :
    val_main_v54 (F := Ideal) x0 x1 x2 (ix3 b s j) = (refArgs x0 x1 x2 x3 x4).u (sstep b s) (zcol j) * Ideal.logistic ((refArgs x0 x1 x2 x3 x4).u (sstep b s) (zcol j)) := by
  pointwise [val_main_v54, val_main_call2_v5, val_main_call2_v4, val_main_call2_v3, val_main_call2_v2, val_main_call2_v1, val_main_call2_v0, val_main_call2_cst,
    val_main_call2_cst_0, val_main_v17]
  simp only [ref_u x0 x1 x2 x3 x4]
  rfl

theorem ref_dt (b : Fin 16) (s : Fin 2048) (j : Fin 128) : val_main_v58 (F := Ideal) x0 x1 x2 (ix3 b s j) = (refArgs x0 x1 x2 x3 x4).dt (sstep b s) j := by
  pointwise [val_main_v58, val_main_v19, val_main_call3_v0, val_main_c_2]
  simp only [ref_u x0 x1 x2 x3 x4]
  rw [sitofp_zero]
  rfl

/-- The step of a chunk's position, as a step of its sequence. -/
theorem sstep_eq (q : Fin 256) (r : Fin 128) :
    sstep ⟨q.val / 16, by omega⟩ ⟨128 * (q.val % 16) + (r.val / 8 + 16 * (r.val % 8)), by omega⟩ = step q r := by
  apply Fin.ext
  show q.val / 16 * 2048 + (128 * (q.val % 16) + (r.val / 8 + 16 * (r.val % 8))) = 128 * q.val + (r.val / 8 + 16 * (r.val % 8))
  omega

/-- The gated part, by chunk, column and position. -/
theorem ref_zg (q : Fin 256) (j : Fin 2048) (r : Fin 128) :
    val_main_v62 (F := Ideal) x0 x1 x2 (ix3 q j r) = (refArgs x0 x1 x2 x3 x4).u (step q r) (zcol j) * Ideal.logistic ((refArgs x0 x1 x2 x3 x4).u (step q r) (zcol j)) := by
  rw [val_main_v62_apply]
  refine (chunked_apply 2048 (val_main_v54 (F := Ideal) x0 x1 x2) _ _ _ q r j).trans ?_
  rw [ref_z x0 x1 x2 x3 x4, sstep_eq]

/-- The convolved part, by chunk, column and position. -/
theorem ref_xs (q : Fin 256) (j : Fin 2048) (r : Fin 128) :
    val_main_v66 (F := Ideal) x0 x1 x2 x3 x4 (ix3 q j r) = (refArgs x0 x1 x2 x3 x4).cv (step q r) ⟨j.val, by omega⟩ * Ideal.logistic ((refArgs x0 x1 x2 x3 x4).cv (step q r) ⟨j.val, by omega⟩) := by
  rw [val_main_v66_apply]
  refine (chunked_apply 2048 (val_main_v55 (F := Ideal) x0 x1 x2 x3 x4) _ _ _ q r j).trans ?_
  rw [ref_v55, sstep_eq]

/-- Rows of `512` columns, by chunk and position. -/
theorem rows_apply (n : ℕ) (v : FVec Ideal ⟨3, ![256, 128, n]⟩ .f32) (h : Shape.ShapeCasts ⟨3, ![256, 128, n]⟩ ⟨2, ![32768, n]⟩) (p : Fin 32768) (j : Fin n) :
    shapeCast ⟨2, ![32768, n]⟩ v h (ix2 p j) = v (ix3 ⟨p.val / 128, by omega⟩ ⟨p.val % 128, by omega⟩ j) := by
  refine shapeCast_apply _ h _ _ ?_
  rw [Shape.rowMajor_val_three, Shape.rowMajor_val_two]
  show (p.val / 128 * 128 + p.val % 128) * n + j.val = p.val * n + j.val
  rw [show p.val / 128 * 128 + p.val % 128 = p.val by omega]

/-- The step that row `p` of the call's layout holds. -/
abbrev rowStep (p : Fin 32768) : Fin 32768 := step ⟨p.val / 128, by omega⟩ ⟨p.val % 128, by omega⟩

theorem ref_b (p : Fin 32768) (j : Fin 512) :
    val_main_v71 (F := Ideal) x0 x1 x2 x3 x4 (ix2 p j) = (refArgs x0 x1 x2 x3 x4).cv (rowStep p) ⟨2048 + j.val, by omega⟩ * Ideal.logistic ((refArgs x0 x1 x2 x3 x4).cv (rowStep p) ⟨2048 + j.val, by omega⟩) := by
  show val_main_v70 (F := Ideal) x0 x1 x2 x3 x4 (ix2 p j) = _
  refine (rows_apply 512 (val_main_v69 (F := Ideal) x0 x1 x2 x3 x4) _ p j).trans ?_
  refine (chunked_apply 512 (val_main_v56 (F := Ideal) x0 x1 x2 x3 x4) _ _ _ _ _ j).trans ?_
  rw [ref_v56, sstep_eq]

theorem ref_c (p : Fin 32768) (j : Fin 512) :
    val_main_v76 (F := Ideal) x0 x1 x2 x3 x4 (ix2 p j) = (refArgs x0 x1 x2 x3 x4).cv (rowStep p) ⟨2560 + j.val, by omega⟩ * Ideal.logistic ((refArgs x0 x1 x2 x3 x4).cv (rowStep p) ⟨2560 + j.val, by omega⟩) := by
  show val_main_v75 (F := Ideal) x0 x1 x2 x3 x4 (ix2 p j) = _
  refine (rows_apply 512 (val_main_v74 (F := Ideal) x0 x1 x2 x3 x4) _ p j).trans ?_
  refine (chunked_apply 512 (val_main_v57 (F := Ideal) x0 x1 x2 x3 x4) _ _ _ _ _ j).trans ?_
  rw [ref_v57, sstep_eq]

theorem ref_dtr (p : Fin 32768) (j : Fin 128) : val_main_v80 (F := Ideal) x0 x1 x2 (ix2 p j) = (refArgs x0 x1 x2 x3 x4).dt (rowStep p) j := by
  refine (rows_apply 128 (val_main_v79 (F := Ideal) x0 x1 x2) _ p j).trans ?_
  refine (chunked_apply 128 (val_main_v58 (F := Ideal) x0 x1 x2) _ _ _ _ _ j).trans ?_
  rw [ref_dt x0 x1 x2 x3 x4, sstep_eq]

end Cert.Proof.InProj

end
-- ==== Proof.InProj.Claim.lean ====
/-
  The value claim of the call that makes a state-space mixer's inputs: on real arguments the kernel's five result arrays
  are the reference's.
-/
module

public import proofs.«01_k».proof.Proof.InProj.Pre
public import proofs.«01_k».proof.Proof.InProj.Ref

@[expose] public section

set_option maxRecDepth 16384

noncomputable section

namespace Cert.Proof.InProj

open Idealize.ShloMosaic Idealize.ShloMosaic.TcCoe Idealize.SL.Sem

section

open Cert.InProjRefIdeal Cert.InProjRefIdeal.Read

variable {x0 : (⟨S32768x1024, .f32⟩ : BufTy).Contents (Elt Ideal)} {x1 : (⟨S1x1024, .f32⟩ : BufTy).Contents (Elt Ideal)}
  {x2 : (⟨S1x1024x5152, .f32⟩ : BufTy).Contents (Elt Ideal)} {x3 : (⟨S1x4x3072, .f32⟩ : BufTy).Contents (Elt Ideal)}
  {x4 : (⟨S1x3072, .f32⟩ : BufTy).Contents (Elt Ideal)}
variable {m : (ℓ : Loc Cert.InProjIdeal.nD Cert.InProjIdeal.τ Cert.InProjIdeal.sig) → Buf (Elt Ideal) ℓ} {c : Dev Cert.InProjIdeal.nD}
variable (e : refArgs x0 x1 x2 x3 x4 = args m c) (H : (args m c).Finite)

include e H

theorem zg_eq : val_main_v62 (F := Ideal) x0 x1 x2 = Cert.InProjIdeal.Value.G6 m c := by
  funext i
  idx_vars i
  refine (ref_zg x0 x1 x2 x3 x4 _ _ _).trans (Eq.trans ?_ (result_zg m c _ _ _).symm)
  rw [H.z_gate, e]

theorem xs_eq : val_main_v66 (F := Ideal) x0 x1 x2 x3 x4 = Cert.InProjIdeal.Value.G7 m c := by
  funext i
  idx_vars i
  refine (ref_xs x0 x1 x2 x3 x4 _ _ _).trans (Eq.trans ?_ (result_xs m c _ _ _).symm)
  rw [H.conv_gate, e]

theorem b_eq : val_main_v71 (F := Ideal) x0 x1 x2 x3 x4 = Cert.InProjIdeal.Value.G8 m c := by
  funext i
  idx_vars i
  refine (ref_b x0 x1 x2 x3 x4 _ _).trans (Eq.trans ?_ (result_b m c _ _).symm)
  rw [H.conv_gate, e]

theorem c_eq : val_main_v76 (F := Ideal) x0 x1 x2 x3 x4 = Cert.InProjIdeal.Value.G9 m c := by
  funext i
  idx_vars i
  refine (ref_c x0 x1 x2 x3 x4 _ _).trans (Eq.trans ?_ (result_c m c _ _).symm)
  rw [H.conv_gate, e]

omit H in
theorem dt_eq : val_main_v80 (F := Ideal) x0 x1 x2 = Cert.InProjIdeal.Value.G10 m c := by
  funext i
  idx_vars i
  refine (ref_dtr x0 x1 x2 x3 x4 _ _).trans (Eq.trans ?_ (result_dt m c _ _).symm)
  rw [e]

end

open Cert.InProjRefIdeal.Read in
theorem algebraic : algebraic_InProjIdeal_InProjRefIdeal_pre_finite4 := by
  intro m g m' g' hpre hm
  refine ⟨fun c => Cert.InProjIdeal.Value.G6 m c, fun c => Cert.InProjIdeal.Value.G7 m c, fun c => Cert.InProjIdeal.Value.G8 m c,
    fun c => Cert.InProjIdeal.Value.G9 m c, fun c => Cert.InProjIdeal.Value.G10 m c, Cert.InProjIdeal.Value.run m g, ?_⟩
  refine (θ_run _ _ _).mono (fun r h c => ?_) (Cert.InProjRefIdeal.Value.run m' g')
  have H := finite_of_pre m hpre c
  have e : refArgs (m' ((c.tc : Thread _ _).loc Cert.InProjRefIdeal.main_arg0)) (m' ((c.tc : Thread _ _).loc Cert.InProjRefIdeal.main_arg1))
      (m' ((c.tc : Thread _ _).loc Cert.InProjRefIdeal.main_arg2)) (m' ((c.tc : Thread _ _).loc Cert.InProjRefIdeal.main_arg3))
      (m' ((c.tc : Thread _ _).loc Cert.InProjRefIdeal.main_arg4)) = args m c := by
    obtain ⟨e0, e1, e2, e3, e4⟩ := hm c
    rw [e0, e1, e2, e3, e4]
    rfl
  exact ⟨((h c).1.trans (val_main_v62_eq _ _ _)).trans (zg_eq e H),
    ((h c).2.1.trans (val_main_v66_eq m' c)).trans (xs_eq e H),
    ((h c).2.2.1.trans (val_main_v71_eq m' c)).trans (b_eq e H),
    ((h c).2.2.2.1.trans (val_main_v76_eq m' c)).trans (c_eq e H),
    ((h c).2.2.2.2.1.trans (val_main_v80_eq _ _ _)).trans (dt_eq e),
    (h c).2.2.2.2.2⟩

end Cert.Proof.InProj

end
-- ==== Proof.Qkv.Model.lean ====
/-
  Keys, values and queries of one attention block, as mathematics over the extended reals: the row norm, the two
  projections, the norm of each component's 64 lanes, and the queries' scale, as the kernel groups them and as the
  reference does, with the equality of the two.
-/
module

public import proofs.«01_k».proof.Proof.Common.Reals

@[expose] public section

noncomputable section

namespace Cert.Proof.Qkv

open Idealize.ShloMosaic Cert.Proof.Reals
open scoped BigOperators

/-- The operands: the residual stream, the two norms' gains, the two projections, and the gains of the keys' and the
    queries' component norm. -/
structure Data where
  h : Fin 32768 → Fin 1024 → EReal
  gk : Fin 1024 → EReal
  gq : Fin 1024 → EReal
  wkv : Fin 1024 → Fin 2048 → EReal
  wq : Fin 1024 → Fin 1024 → EReal
  nk : Fin 64 → EReal
  nq : Fin 64 → EReal

/-- Lane `e` of the half that lane `l` lies in, and a lane's place in its half. -/
abbrev half (l : Fin 128) (e : Fin 64) : Fin 128 := ⟨64 * (l.val / 64) + e.val, by omega⟩
abbrev inHalf (l : Fin 128) : Fin 64 := ⟨l.val % 64, by omega⟩

/-- The norm of each half of 128 lanes, with gain. -/
def norm64 (f : Fin 128 → EReal) (g : Fin 64 → EReal) (l : Fin 128) : EReal :=
  f l * Ideal.rsqrt (Ideal.div (∑ e, f (half l e) * f (half l e)) (Ideal.ofBits .f32 0x42800000#32) + Ideal.ofBits .f32 0x358637BD#32) * g (inHalf l)

namespace Data

variable (D : Data)

/-- The normalized row, before a gain. -/
def nx (n : Fin 32768) (d : Fin 1024) : EReal :=
  D.h n d * Ideal.rsqrt (Ideal.div (∑ e, D.h n e * D.h n e) (Ideal.ofBits .f32 0x44800000#32) + Ideal.ofBits .f32 0x358637BD#32)

/-- The rows of the keys' and values' projection, and of the queries'. -/
def kv (n : Fin 32768) (j : Fin 2048) : EReal := ∑ d, D.nx n d * D.gk d * D.wkv d j
def qq (n : Fin 32768) (j : Fin 1024) : EReal := ∑ d, D.nx n d * D.gq d * D.wq d j

/-- Head `a`'s key, value and scaled query. -/
def key (a : Fin 8) (n : Fin 32768) (l : Fin 128) : EReal := norm64 (fun i => D.kv n ⟨128 * a.val + i.val, by omega⟩) D.nk l
def value (a : Fin 8) (n : Fin 32768) (l : Fin 128) : EReal := D.kv n ⟨1024 + 128 * a.val + l.val, by omega⟩
def query (a : Fin 8) (n : Fin 32768) (l : Fin 128) : EReal :=
  norm64 (fun i => D.qq n ⟨128 * a.val + i.val, by omega⟩) D.nq l * (((Real.log 256)⁻¹ : ℝ) : EReal)

/-- The queries of one tile of 256 steps, the first component's rows before the second's, each with zeros in the other
    component's lanes. -/
def tile (a : Fin 8) (t : Fin 128) (r : Fin 512) (l : Fin 128) : EReal :=
  if r.val < 256 ↔ l.val < 64 then D.query a ⟨256 * t.val + r.val % 256, by omega⟩ l else 0

end Data

/-- A choice by a lane's half. -/
theorem select_half {α : Type} (l : Fin 128) (a b : α) :
    Scalar.select (IntOp.cmpi .slt (BitVec.ofNat 32 l.val) 64#32) a b = if l.val < 64 then a else b := by
  have hl := l.isLt
  have h : IntOp.cmpi .slt (BitVec.ofNat 32 l.val) 64#32 = 1#1 ↔ l.val < 64 := by
    rw [IntOp.cmpi_slt, BitVec.toInt_eq_toNat_of_lt (by rw [BitVec.toNat_ofNat]; omega), BitVec.toInt_eq_toNat_of_lt (by decide), BitVec.toNat_ofNat]
    show l.val % 2 ^ 32 < ((64 : ℕ) : ℤ) ↔ _
    omega
  show (if _ = 1#1 then a else b) = _
  by_cases e : l.val < 64
  · rw [if_pos (h.2 e), if_pos e]
  · rw [if_neg (fun x => e (h.1 x)), if_neg e]

theorem sum_lo (f : Fin 128 → EReal) : ∑ l : Fin 128, (if l.val < 64 then f l else 0) = ∑ e : Fin 64, f ⟨e.val, by omega⟩ := by
  rw [show (∑ l : Fin 128, (if l.val < 64 then f l else 0)) = _ from Fin.sum_univ_add (a := 64) (b := 64) (fun l => if l.val < 64 then f l else 0)]
  rw [Finset.sum_congr rfl (fun e _ => if_pos (show (Fin.castAdd 64 e).val < 64 from e.isLt)),
    Finset.sum_congr rfl (fun e _ => if_neg (show ¬(Fin.natAdd 64 e).val < 64 by rw [Fin.val_natAdd]; omega)), Finset.sum_const_zero, add_zero]
  rfl

theorem sum_hi (f : Fin 128 → EReal) : ∑ l : Fin 128, (if l.val < 64 then 0 else f l) = ∑ e : Fin 64, f ⟨64 + e.val, by omega⟩ := by
  rw [show (∑ l : Fin 128, (if l.val < 64 then 0 else f l)) = _ from Fin.sum_univ_add (a := 64) (b := 64) (fun l => if l.val < 64 then 0 else f l)]
  rw [Finset.sum_congr rfl (fun e _ => if_pos (show (Fin.castAdd 64 e).val < 64 from e.isLt)),
    Finset.sum_congr rfl (fun e _ => if_neg (show ¬(Fin.natAdd 64 e).val < 64 by rw [Fin.val_natAdd]; omega)), Finset.sum_const_zero, zero_add]
  rfl

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
theorem ofBits_8th : Ideal.ofBits .f32 0x3E000000#32 = ((1 / 8 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

/-- The kernel's norm of the two halves: the halves' sums over all lanes with the other half's at zero, the mean by a
    product, and the choice between the two. -/
theorem norm64_kernel (f : Fin 128 → EReal) (g : Fin 64 → EReal) (l : Fin 128) :
    f l * (if l.val < 64 then
        Ideal.rsqrt ((∑ i : Fin 128, (if i.val < 64 then f i * f i else 0)) * Ideal.ofBits .f32 0x3C800000#32 + Ideal.ofBits .f32 0x358637BD#32)
      else Ideal.rsqrt ((∑ i : Fin 128, (if i.val < 64 then 0 else f i * f i)) * Ideal.ofBits .f32 0x3C800000#32 + Ideal.ofBits .f32 0x358637BD#32)) * g (inHalf l)
      = norm64 f g l := by
  have hl := l.isLt
  unfold norm64
  rw [sum_lo, sum_hi, ofBits_64, Ideal.div_coe (by norm_num), ofBits_64th]
  by_cases h : l.val < 64
  · rw [if_pos h]
    have e : ∀ i : Fin 64, half l i = ⟨i.val, by omega⟩ := fun i => Fin.ext (by show 64 * (l.val / 64) + i.val = i.val; omega)
    simp only [e]
  · rw [if_neg h]
    have e : ∀ i : Fin 64, half l i = ⟨64 + i.val, by omega⟩ := fun i => Fin.ext (by show 64 * (l.val / 64) + i.val = 64 + i.val; omega)
    simp only [e]

/-- The queries' scale: an eighth, over the logarithm of two. -/
theorem scale_eq (x : EReal) :
    Ideal.div (x * Ideal.ofBits .f32 0x3E000000#32) (Ideal.log (Ideal.ofBits .f32 0x40000000#32)) = x * (((Real.log 256)⁻¹ : ℝ) : EReal) := by
  have h2 : Real.log 2 ≠ 0 := (Real.log_pos (by norm_num)).ne'
  have h : (1 / 8 : ℝ) * (1 / Real.log 2) = (Real.log 256)⁻¹ := by
    rw [show (256 : ℝ) = 2 ^ 8 by norm_num, Real.log_pow]
    push_cast
    field_simp
  rw [ofBits_2, ofBits_8th, Ideal.log_coe, if_neg (by norm_num), Ideal.div_coe h2, mul_assoc, ← EReal.coe_mul, h]

end Cert.Proof.Qkv

end
-- ==== Proof.Qkv.Block.lean ====
/-
  One block of 1024 rows of the call that makes keys, values and queries, read off its stored values: every head's store
  is one shape of expression at another column offset, and holds the rows of `Qkv.Data`'s.
-/
module

public import proofs.«01_k».proof.Proof.Qkv.Model
public import proofs.«01_k».proof.Proof.Gen.QkvIdeal.Value
public import Idealize.ShloMosaic.Lib.Pointwise

@[expose] public section

set_option maxRecDepth 16384

noncomputable section

namespace Cert.Proof.Qkv

open Idealize.ShloMosaic
open Cert.QkvIdeal Cert.QkvIdeal.Gen

/-! ## The shape of a head's stores -/

/-- Which lanes lie in the first half. -/
def mask : IVec S1024x128 1 := cmpi .slt (iota .tc S1024x128 32 [1] iota_S1024x128_d1_w32) (broadcast S1024x128 64#32)

/-- Zero lanes. -/
def zeros : FVec Ideal S1024x128 .f32 := broadcast S1024x128 (Scalar.ofBits (F := Ideal) .f32 0x00000000#32)

/-- The reciprocal root of a half's mean square. -/
def scaleOf (v : FVec Ideal S1024x128 .f32) : FVec Ideal S1024x128 .f32 :=
  broadcastTo S1024x128 (shapeCast S1024x1 (rsqrt (addf (mulf
    (shapeCast S1024x1 (multiReduction .add [1] S1024 v 0x00000000#32 reduces_S1024x128_S1024 (.inl rfl) rfl) shapeCasts_S1024_S1024x1)
    (broadcast S1024x1 (Scalar.ofBits (F := Ideal) .f32 0x3C800000#32))) (broadcast S1024x1 (Scalar.ofBits (F := Ideal) .f32 0x358637BD#32))))
    shapeCasts_S1024x1_S1024x1) broadcasts_S1024x1_S1024x128

/-- The norm of each half of a head's lanes. -/
def pairNorm (b : FVec Ideal S1024x128 .f32) (g : Vec Ideal S1x128 .f32) : FVec Ideal S1024x128 .f32 :=
  mulf (mulf b (select mask (scaleOf (select mask (mulf b b) zeros)) (scaleOf (select mask zeros (mulf b b)))))
    (broadcastTo S1024x128 (shapeCast S1x128 g shapeCasts_S1x128_S1x128) broadcasts_S1x128_S1024x128)

theorem slices_kv (a : Fin 8) : S1024x2048.Slices ![0, 128 * a.val] S1024x128 :=
  ⟨rfl, fun x => match x with | ⟨0, _⟩ => by show 0 + 1024 ≤ 1024; omega | ⟨1, _⟩ => by show 128 * a.val + 128 ≤ 2048; omega⟩
theorem slices_q (a : Fin 8) : S1024x1024.Slices ![0, 128 * a.val] S1024x128 :=
  ⟨rfl, fun x => match x with | ⟨0, _⟩ => by show 0 + 1024 ≤ 1024; omega | ⟨1, _⟩ => by show 128 * a.val + 128 ≤ 1024; omega⟩
theorem slices_tile (t : Fin 4) : S1024x128.Slices ![256 * t.val, 0] S256x128 :=
  ⟨rfl, fun x => match x with | ⟨0, _⟩ => by show 256 * t.val + 256 ≤ 1024; omega | ⟨1, _⟩ => by show 0 + 128 ≤ 128; omega⟩

/-- A head's keys. -/
def keyPay (kv : FVec Ideal S1024x2048 .f32) (g : Vec Ideal S1x128 .f32) (a : Fin 8) : FVec Ideal S1x1024x128 .bf16 :=
  shapeCast S1x1024x128 (truncf .bf16 (pairNorm (extractStridedSlice S1024x128 ![0, 128 * a.val] kv (slices_kv a)) g) bitsLt_bf16_f32)
    shapeCasts_S1024x128_S1x1024x128

/-- A head's scaled queries. -/
def queryPay (q : FVec Ideal S1024x1024 .f32) (g : Vec Ideal S1x128 .f32) (a : Fin 8) : FVec Ideal S1024x128 .f32 :=
  mulf (pairNorm (extractStridedSlice S1024x128 ![0, 128 * a.val] q (slices_q a)) g)
    (broadcast S1024x128 (Named.named (F := Ideal) κ "scale" 0x3E38AA3B#32))

/-- One component's rows of one tile of a head's queries. -/
def tilePay (q : FVec Ideal S1024x1024 .f32) (g : Vec Ideal S1x128 .f32) (a : Fin 8) (t : Fin 4) : Bool → FVec Ideal S1x1x256x128 .bf16
  | false => shapeCast S1x1x256x128 (extractStridedSlice S256x128 ![256 * t.val, 0]
      (truncf .bf16 (select mask (queryPay q g a) zeros) bitsLt_bf16_f32) (slices_tile t)) shapeCasts_S256x128_S1x1x256x128
  | true => shapeCast S1x1x256x128 (extractStridedSlice S256x128 ![256 * t.val, 0]
      (truncf .bf16 (select mask zeros (queryPay q g a)) bitsLt_bf16_f32) (slices_tile t)) shapeCasts_S256x128_S1x1x256x128

/-! ## Read at an index -/

theorem mask_apply (r : Fin 1024) (l : Fin 128) {α : Type} (a b : α) : Scalar.select (mask (ix2 r l)) a b = if l.val < 64 then a else b := by
  pointwise [mask]
  exact select_half l a b

theorem scaleOf_apply (v : FVec Ideal S1024x128 .f32) (r : Fin 1024) (l : Fin 128) :
    scaleOf v (ix2 r l) = Ideal.rsqrt ((∑ i : Fin 128, v (ix2 r i)) * Ideal.ofBits .f32 0x3C800000#32 + Ideal.ofBits .f32 0x358637BD#32) := by
  pointwise [scaleOf]

theorem pairNorm_apply (b : FVec Ideal S1024x128 .f32) (g : Vec Ideal S1x128 .f32) {f : Fin 128 → EReal} {h : Fin 64 → EReal} (r : Fin 1024) (l : Fin 128)
    (hb : ∀ i, b (ix2 r i) = f i) (hg : ∀ i, g (ix2 0 i) = h (inHalf i)) : pairNorm b g (ix2 r l) = norm64 f h l := by
  have hz : ∀ i : Fin 128, zeros (ix2 r i) = 0 := fun i => by pointwise [zeros]
  have key : pairNorm b g (ix2 r l) = b (ix2 r l) * Scalar.select (mask (ix2 r l)) (scaleOf (select mask (mulf b b) zeros) (ix2 r l))
      (scaleOf (select mask zeros (mulf b b)) (ix2 r l)) * g (ix2 0 l) := by
    pointwise [pairNorm]
  rw [key, ← norm64_kernel, ← hg, mask_apply, scaleOf_apply, scaleOf_apply, hb]
  refine congrArg (· * g (ix2 0 l)) (congrArg (f l * ·) ?_)
  have e1 : ∀ i : Fin 128, select mask (mulf b b) zeros (ix2 r i) = if i.val < 64 then f i * f i else 0 := fun i => by
    rw [← hz i, ← hb i]; exact mask_apply r i _ _
  have e2 : ∀ i : Fin 128, select mask zeros (mulf b b) (ix2 r i) = if i.val < 64 then 0 else f i * f i := fun i => by
    rw [← hz i, ← hb i]; exact mask_apply r i _ _
  simp only [e1, e2]

theorem keyPay_apply (kv : FVec Ideal S1024x2048 .f32) (g : Vec Ideal S1x128 .f32) {f : Fin 2048 → EReal} {h : Fin 64 → EReal} (a : Fin 8) (r : Fin 1024) (l : Fin 128)
    (hkv : ∀ j, kv (ix2 r j) = f j) (hg : ∀ i, g (ix2 0 i) = h (inHalf i)) :
    keyPay kv g a (ix3 0 r l) = norm64 (fun i => f ⟨128 * a.val + i.val, by omega⟩) h l := by
  refine (shapeCast_apply _ _ _ (ix2 r l) (by rw [Shape.rowMajor_val_two, Shape.rowMajor_val_three]; show r.val * 128 + l.val = ((0 : ℕ) * 1024 + r.val) * 128 + l.val; omega)).trans ?_
  refine pairNorm_apply _ g r l (fun i => ?_) hg
  refine (extractStridedSlice_apply _ _ _ _ (ix2 r ⟨128 * a.val + i.val, by omega⟩) (fun x => ?_)).trans (hkv _)
  match x with
  | ⟨0, _⟩ => show r.val = 0 + r.val; omega
  | ⟨1, _⟩ => rfl

theorem queryPay_apply (q : FVec Ideal S1024x1024 .f32) (g : Vec Ideal S1x128 .f32) {f : Fin 1024 → EReal} {h : Fin 64 → EReal} (a : Fin 8) (r : Fin 1024) (l : Fin 128)
    (hq : ∀ j, q (ix2 r j) = f j) (hg : ∀ i, g (ix2 0 i) = h (inHalf i)) :
    queryPay q g a (ix2 r l) = norm64 (fun i => f ⟨128 * a.val + i.val, by omega⟩) h l * (((Real.log 256)⁻¹ : ℝ) : EReal) := by
  refine congrArg₂ (· * ·) (pairNorm_apply _ g r l (fun i => ?_) hg) ?_
  · refine (extractStridedSlice_apply _ _ _ _ (ix2 r ⟨128 * a.val + i.val, by omega⟩) (fun x => ?_)).trans (hq _)
    match x with
    | ⟨0, _⟩ => show r.val = 0 + r.val; omega
    | ⟨1, _⟩ => rfl
  · rfl

theorem tilePay_apply (q : FVec Ideal S1024x1024 .f32) (g : Vec Ideal S1x128 .f32) {f : Fin 1024 → EReal} {h : Fin 64 → EReal} (a : Fin 8) (t : Fin 4) (c : Bool)
    (r : Fin 256) (l : Fin 128) (hq : ∀ j, q (ix2 ⟨256 * t.val + r.val, by omega⟩ j) = f j) (hg : ∀ i, g (ix2 0 i) = h (inHalf i)) :
    tilePay q g a t c (ix4 0 0 r l) = if (c = false ↔ l.val < 64) then norm64 (fun i => f ⟨128 * a.val + i.val, by omega⟩) h l * (((Real.log 256)⁻¹ : ℝ) : EReal) else 0 := by
  have hz : zeros (ix2 ⟨256 * t.val + r.val, by omega⟩ l) = 0 := by pointwise [zeros]
  rw [← queryPay_apply q g a _ l hq hg, ← hz]
  have es : ∀ (v : FVec Ideal S1024x128 .f32), shapeCast S1x1x256x128 (extractStridedSlice S256x128 ![256 * t.val, 0]
      (truncf .bf16 v bitsLt_bf16_f32) (slices_tile t)) shapeCasts_S256x128_S1x1x256x128 (ix4 0 0 r l) = v (ix2 ⟨256 * t.val + r.val, by omega⟩ l) := fun v => by
    refine (shapeCast_apply _ _ _ (ix2 r l) (by rw [Shape.rowMajor_val_two, Shape.rowMajor_val_four]; show r.val * 128 + l.val = (((0 : ℕ) * 1 + 0) * 256 + r.val) * 128 + l.val; omega)).trans ?_
    refine (extractStridedSlice_apply _ _ _ _ (ix2 ⟨256 * t.val + r.val, by omega⟩ l) (fun x => ?_)).trans rfl
    match x with
    | ⟨0, _⟩ => rfl
    | ⟨1, _⟩ => show l.val = 0 + l.val; omega
  cases c with
  | false =>
    refine (es _).trans ((mask_apply _ l _ _).trans ?_)
    by_cases hl : l.val < 64 <;> simp [hl]
  | true =>
    refine (es _).trans ((mask_apply _ l _ _).trans ?_)
    by_cases hl : l.val < 64 <;> simp [hl]

end Cert.Proof.Qkv

end
-- ==== Proof.Qkv.Kernel.lean ====
/-
  What the call that makes keys, values and queries leaves in its three result arrays: `Qkv.Data`'s of its arguments.
-/
module

public import proofs.«01_k».proof.Proof.Qkv.Block
public import Idealize.ShloMosaic.Lib.StableHlo.ReadAt

@[expose] public section

set_option maxRecDepth 16384

noncomputable section

namespace Cert.Proof.Qkv

open Idealize.ShloMosaic Idealize.ShloMosaic.TcCoe Idealize.SL.Sem
open Cert.QkvIdeal Cert.QkvIdeal.Gen Cert.QkvIdeal.Value

/-! ## A block's stores, head by head -/

theorem inb_head (a : Fin 8) : ∀ x, (![a.val, 0, 0] : Fin 3 → Nat) x + S1x1024x128.size x ≤ S8x1024x128.size x := fun x =>
  match x with
  | ⟨0, _⟩ => by show a.val + 1 ≤ 8; omega
  | ⟨1, _⟩ => by show 0 + 1024 ≤ 1024; omega
  | ⟨2, _⟩ => by show 0 + 128 ≤ 128; omega

theorem inb_tile (a : Fin 8) (t : Fin 4) (c : Bool) :
    ∀ x, (![a.val, t.val, bif c then 256 else 0, 0] : Fin 4 → Nat) x + S1x1x256x128.size x ≤ S8x4x512x128.size x := fun x =>
  match x with
  | ⟨0, _⟩ => by show a.val + 1 ≤ 8; omega
  | ⟨1, _⟩ => by show t.val + 1 ≤ 4; omega
  | ⟨2, _⟩ => by
    cases c with
    | false => show 0 + 256 ≤ 512; omega
    | true => show 256 + 256 ≤ 512; omega
  | ⟨3, _⟩ => by show 0 + 128 ≤ 128; omega

/-- Head `a`'s store of keys. -/
abbrev keyPiece (kv : FVec Ideal S1024x2048 .f32) (g : Vec Ideal S1x128 .f32) (a : Fin 8) : View.Piece (Elt Ideal) S8x1024x128 .bf16 :=
  ⟨Rect.unit (s := S8x1024x128) ![a.val, 0, 0] S1x1024x128.size (inb_head a), keyPay kv g a⟩

/-- Head `a`'s store of one component of one tile of queries. -/
abbrev tilePiece (q : FVec Ideal S1024x1024 .f32) (g : Vec Ideal S1x128 .f32) (p : Fin 8 × Fin 4 × Bool) : View.Piece (Elt Ideal) S8x4x512x128 .bf16 :=
  ⟨Rect.unit (s := S8x4x512x128) ![p.1.val, p.2.1.val, bif p.2.2 then 256 else 0, 0] S1x1x256x128.size (inb_tile p.1 p.2.1 p.2.2), tilePay q g p.1 p.2.1 p.2.2⟩

/-- The stores of queries, last first. -/
def order : List (Fin 8 × Fin 4 × Bool) :=
  ([7, 6, 5, 4, 3, 2, 1, 0] : List (Fin 8)).flatMap fun a => ([3, 2, 1, 0] : List (Fin 4)).flatMap fun t => [(a, t, true), (a, t, false)]

theorem hz2 : (![0, 0] : Fin 2 → Nat) = fun _ => 0 := funext fun a => by fin_cases a <;> rfl

section Stores

variable (x0 : Vec Ideal S1024x1024 .f32) (x1 x2 : Vec Ideal S1x1024 .f32) (x3 : Vec Ideal S1024x2048 .bf16) (x4 : Vec Ideal S1024x1024 .bf16)
  (x5 x6 : Vec Ideal S1x128 .f32)

theorem keys_list : out0_7 x0 x1 x2 x3 x4 x5 x6
    = View.canon (([7, 6, 5, 4, 3, 2, 1, 0] : List (Fin 8)).map (keyPiece (k0_pay4 (View.ld x0 r0_0) (View.ld x1 r0_1) (View.ld x3 r0_2)) (View.ld x5 r0_3))) := rfl

theorem queries_list : out0_9 x0 x1 x2 x3 x4 x5 x6
    = View.canon (order.map (tilePiece (k0_pay5 (View.ld x0 r0_0) (View.ld x2 r0_1) (View.ld x4 r0_0)) (View.ld x6 r0_3))) := rfl

/-- A block's keys, by head, row and lane. -/
theorem keys_apply {f : Fin 1024 → Fin 2048 → EReal} {h : Fin 64 → EReal}
    (hkv : ∀ r j, k0_pay4 x0 x1 x3 (ix2 r j) = f r j) (hg : ∀ i, x5 (ix2 0 i) = h (inHalf i)) (a : Fin 8) (r : Fin 1024) (l : Fin 128) :
    out0_7 x0 x1 x2 x3 x4 x5 x6 (ix3 a r l) = norm64 (fun i => f r ⟨128 * a.val + i.val, by omega⟩) h l := by
  rw [keys_list, View.ld_unit_zero (S := S1024x1024) hz2, View.ld_unit_zero (S := S1x1024) hz2, View.ld_unit_zero (S := S1024x2048) hz2,
    View.ld_unit_zero (S := S1x128) hz2]
  refine View.canon_apply_of_pieces (Val := Elt Ideal) (e := .bf16)
    (fun y : S8x1024x128.Idx => norm64 (fun i => f (y 1) ⟨128 * (y 0).val + i.val, by have : (y 0).val < 8 := (y 0).isLt; omega⟩) h (y 2)) _
    (fun pc hpc => ?_) (ix3 a r l) ?_
  swap
  · exact View.cover_of_tiled (Val := Elt Ideal) (s := S8x1024x128) (e := .bf16) _ S1x1024x128.size (by rfl) _
  obtain ⟨b, _, rfl⟩ := List.mem_map.mp hpc
  intro x
  obtain ⟨s, i, rfl⟩ : ∃ (s : Fin 1024) (i : Fin 128), x = ix3 0 s i :=
    ⟨x 1, x 2, funext fun u => match u with | ⟨0, _⟩ => Subsingleton.elim (α := Fin 1) _ _ | ⟨1, _⟩ => rfl | ⟨2, _⟩ => rfl⟩
  refine (keyPay_apply _ _ b s i (hkv s) hg).trans ?_
  have e0 : ((Rect.unit (s := S8x1024x128) ![b.val, 0, 0] S1x1024x128.size (inb_head b)).emb (ix3 0 s i) : S8x1024x128.Idx) = ix3 b s i :=
    funext fun u => Fin.ext (match u with
      | ⟨0, _⟩ => by show b.val + 1 * 0 = b.val; omega
      | ⟨1, _⟩ => by show 0 + 1 * s.val = s.val; omega
      | ⟨2, _⟩ => by show 0 + 1 * i.val = i.val; omega)
  rw [e0]
  rfl

/-- A block's queries, by head, tile, row and lane. -/
theorem queries_apply {f : Fin 1024 → Fin 1024 → EReal} {h : Fin 64 → EReal}
    (hq : ∀ r j, k0_pay5 x0 x2 x4 (ix2 r j) = f r j) (hg : ∀ i, x6 (ix2 0 i) = h (inHalf i)) (a : Fin 8) (t : Fin 4) (r : Fin 512) (l : Fin 128) :
    out0_9 x0 x1 x2 x3 x4 x5 x6 (ix4 a t r l) = if (r.val < 256 ↔ l.val < 64) then
      norm64 (fun i => f ⟨256 * t.val + r.val % 256, by omega⟩ ⟨128 * a.val + i.val, by omega⟩) h l * (((Real.log 256)⁻¹ : ℝ) : EReal) else 0 := by
  rw [queries_list, View.ld_unit_zero (S := S1024x1024) hz2, View.ld_unit_zero (S := S1024x1024) hz2, View.ld_unit_zero (S := S1x1024) hz2,
    View.ld_unit_zero (S := S1x128) hz2]
  refine View.canon_apply_of_pieces (Val := Elt Ideal) (e := .bf16)
    (fun y : S8x4x512x128.Idx => if ((y 2).val < 256 ↔ (y 3).val < 64) then
      norm64 (fun i => f ⟨256 * (y 1).val + (y 2).val % 256, by have : (y 1).val < 4 := (y 1).isLt; omega⟩
        ⟨128 * (y 0).val + i.val, by have : (y 0).val < 8 := (y 0).isLt; omega⟩) h (y 3) * (((Real.log 256)⁻¹ : ℝ) : EReal) else 0) _
    (fun pc hpc => ?_) (ix4 a t r l) ?_
  swap
  · exact View.cover_of_tiled (Val := Elt Ideal) (s := S8x4x512x128) (e := .bf16) _ S1x1x256x128.size (by rfl) _
  obtain ⟨⟨b, u, c⟩, _, rfl⟩ := List.mem_map.mp hpc
  intro x
  obtain ⟨s, i, rfl⟩ : ∃ (s : Fin 256) (i : Fin 128), x = ix4 0 0 s i :=
    ⟨x 2, x 3, funext fun u => match u with
      | ⟨0, _⟩ => Subsingleton.elim (α := Fin 1) _ _ | ⟨1, _⟩ => Subsingleton.elim (α := Fin 1) _ _ | ⟨2, _⟩ => rfl | ⟨3, _⟩ => rfl⟩
  refine (tilePay_apply _ _ b u c s i (hq _) hg).trans ?_
  have hs : (bif c then 256 else 0) + s.val < 512 := by cases c <;> simp <;> omega
  have e0 : ((Rect.unit (s := S8x4x512x128) ![b.val, u.val, bif c then 256 else 0, 0] S1x1x256x128.size (inb_tile b u c)).emb (ix4 0 0 s i) : S8x4x512x128.Idx)
      = ix4 b u ⟨(bif c then 256 else 0) + s.val, hs⟩ i :=
    funext fun w => Fin.ext (match w with
      | ⟨0, _⟩ => by show b.val + 1 * 0 = b.val; omega
      | ⟨1, _⟩ => by show u.val + 1 * 0 = u.val; omega
      | ⟨2, _⟩ => by show (bif c then 256 else 0) + 1 * s.val = (bif c then 256 else 0) + s.val; omega
      | ⟨3, _⟩ => by show 0 + 1 * i.val = i.val; omega)
  rw [e0]
  show _ = if ((bif c then 256 else 0) + s.val < 256 ↔ i.val < 64) then
    norm64 (fun j => f ⟨256 * u.val + ((bif c then 256 else 0) + s.val) % 256, _⟩ ⟨128 * b.val + j.val, _⟩) h i * (((Real.log 256)⁻¹ : ℝ) : EReal) else 0
  have hc : (c = false ↔ i.val < 64) ↔ ((bif c then 256 else 0) + s.val < 256 ↔ i.val < 64) := by cases c <;> simp
  have em : ((bif c then 256 else 0) + s.val) % 256 = s.val := by
    have := s.isLt
    cases c with
    | false => show (0 + s.val) % 256 = s.val; omega
    | true => show (256 + s.val) % 256 = s.val; omega
  simp only [hc, em]

end Stores

/-! ## The staged blocks -/

variable (m : (ℓ : Loc nD τ sig) → Buf (Elt Ideal) ℓ) (c : Dev nD)

/-- The operands, out of the call's arguments. -/
def args : Data where
  h n d := m ((c : Thread nD τ).loc main_arg0) (ix2 n d)
  gk d := m ((c : Thread nD τ).loc main_arg1) (ix1 d)
  gq d := m ((c : Thread nD τ).loc main_arg2) (ix2 0 d)
  wkv d j := m ((c : Thread nD τ).loc main_arg3) (ix2 d j)
  wq d j := m ((c : Thread nD τ).loc main_arg4) (ix3 0 d j)
  nk e := m ((c : Thread nD τ).loc main_arg5) (ix1 e)
  nq e := m ((c : Thread nD τ).loc main_arg6) (ix2 0 e)

/-- Row `r` of block `t`. -/
abbrev row (t : Fin cfg0.N) (r : Fin 1024) : Fin 32768 := ⟨1024 * t.val + r.val, by have := lt_of_lt_of_eq t.isLt N_0; omega⟩

theorem blk0 (t : Fin cfg0.N) (r d : Fin 1024) : iblk m c 0 t (ix2 r d) = (args m c).h (row t r) d := by
  have hi := (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * t.val + r.val; omega
  | ⟨1, _⟩ => show win0_0.index t 1 * 1024 + 1 * d.val = d.val; omega

theorem blk1 (t : Fin cfg0.N) (d : Fin 1024) : iblk m c 1 t (ix2 0 d) = (args m c).gk d := by
  have hi := (by decide +kernel : ∀ t : Fin grid0.N, win0_1.index t 0 = 0 ∧ win0_1.index t 1 = 0) t
  unfold iblk
  rw [View.read_apply]
  show V m c main_v13 _ = _
  refine (congrArg (V m c main_v13) (funext fun a => Fin.ext ?_ : _ = (ix2 0 d : S1x1024.Idx))).trans ?_
  · match a with
    | ⟨0, _⟩ => show win0_1.index t 0 * 1 + 1 * 0 = 0; omega
    | ⟨1, _⟩ => show win0_1.index t 1 * 1024 + 1 * d.val = d.val; omega
  · unfold V
    after_reads_at
    rfl

theorem blk2 (t : Fin cfg0.N) (d : Fin 1024) : iblk m c 2 t (ix2 0 d) = (args m c).gq d := by
  have hi := (by decide +kernel : ∀ t : Fin grid0.N, win0_2.index t 0 = 0 ∧ win0_2.index t 1 = 0) t
  unfold iblk
  rw [View.read_apply]
  show V m c main_v14 _ = _
  refine (congrArg (V m c main_v14) (funext fun a => Fin.ext ?_ : _ = (ix2 0 d : S1x1024.Idx))).trans ?_
  · match a with
    | ⟨0, _⟩ => show win0_2.index t 0 * 1 + 1 * 0 = 0; omega
    | ⟨1, _⟩ => show win0_2.index t 1 * 1024 + 1 * d.val = d.val; omega
  · unfold V
    after_reads_at
    rfl

theorem blk3 (t : Fin cfg0.N) (d : Fin 1024) (j : Fin 2048) : iblk m c 3 t (ix2 d j) = (args m c).wkv d j := by
  have hi := (by decide +kernel : ∀ t : Fin grid0.N, win0_3.index t 0 = 0 ∧ win0_3.index t 1 = 0) t
  unfold iblk
  rw [View.read_apply]
  show V m c main_v1 _ = _
  refine (congrArg (V m c main_v1) (funext fun a => Fin.ext ?_ : _ = (ix2 d j : S1024x2048.Idx))).trans ?_
  · match a with
    | ⟨0, _⟩ => show win0_3.index t 0 * 1024 + 1 * d.val = d.val; omega
    | ⟨1, _⟩ => show win0_3.index t 1 * 2048 + 1 * j.val = j.val; omega
  · unfold V
    after_reads_at
    rfl

theorem blk4 (t : Fin cfg0.N) (d j : Fin 1024) : iblk m c 4 t (ix2 d j) = (args m c).wq d j := by
  have hi := (by decide +kernel : ∀ t : Fin grid0.N, win0_4.index t 0 = 0 ∧ win0_4.index t 1 = 0) t
  unfold iblk
  rw [View.read_apply]
  show V m c main_v3 _ = _
  refine (congrArg (V m c main_v3) (funext fun a => Fin.ext ?_ : _ = (ix2 d j : S1024x1024.Idx))).trans ?_
  · match a with
    | ⟨0, _⟩ => show win0_4.index t 0 * 1024 + 1 * d.val = d.val; omega
    | ⟨1, _⟩ => show win0_4.index t 1 * 1024 + 1 * j.val = j.val; omega
  · unfold V
    after_reads_at
    rfl

theorem blk5 (t : Fin cfg0.N) (l : Fin 128) : iblk m c 5 t (ix2 0 l) = (args m c).nk (inHalf l) := by
  have hi := (by decide +kernel : ∀ t : Fin grid0.N, win0_5.index t 0 = 0 ∧ win0_5.index t 1 = 0) t
  unfold iblk
  rw [View.read_apply]
  show V m c main_v7 _ = _
  refine (congrArg (V m c main_v7) (funext fun a => Fin.ext ?_ : _ = (ix2 0 l : S1x128.Idx))).trans ?_
  · match a with
    | ⟨0, _⟩ => show win0_5.index t 0 * 1 + 1 * 0 = 0; omega
    | ⟨1, _⟩ => show win0_5.index t 1 * 128 + 1 * l.val = l.val; omega
  · unfold V
    after_reads_at
    pointwise
    rfl

theorem blk6 (t : Fin cfg0.N) (l : Fin 128) : iblk m c 6 t (ix2 0 l) = (args m c).nq (inHalf l) := by
  have hi := (by decide +kernel : ∀ t : Fin grid0.N, win0_6.index t 0 = 0 ∧ win0_6.index t 1 = 0) t
  unfold iblk
  rw [View.read_apply]
  show V m c main_v12 _ = _
  refine (congrArg (V m c main_v12) (funext fun a => Fin.ext ?_ : _ = (ix2 0 l : S1x128.Idx))).trans ?_
  · match a with
    | ⟨0, _⟩ => show win0_6.index t 0 * 1 + 1 * 0 = 0; omega
    | ⟨1, _⟩ => show win0_6.index t 1 * 128 + 1 * l.val = l.val; omega
  · unfold V
    after_reads_at
    pointwise
    rfl

/-! ## The projections' rows -/

theorem nx_row (t : Fin cfg0.N) (r d : Fin 1024) : k0_pay3 (iblk m c 0 t) (ix2 r d) = (args m c).nx (row t r) d := by
  pointwise [k0_pay3]
  simp only [blk0]
  rfl

theorem kv_row (t : Fin cfg0.N) (r : Fin 1024) (j : Fin 2048) :
    k0_pay4 (iblk m c 0 t) (iblk m c 1 t) (iblk m c 3 t) (ix2 r j) = (args m c).kv (row t r) j := by
  pointwise [k0_pay4]
  simp only [nx_row, blk1, blk3]
  rfl

theorem q_row (t : Fin cfg0.N) (r j : Fin 1024) :
    k0_pay5 (iblk m c 0 t) (iblk m c 2 t) (iblk m c 4 t) (ix2 r j) = (args m c).qq (row t r) j := by
  pointwise [k0_pay5]
  simp only [nx_row, blk2, blk4]
  rfl

/-! ## The result arrays -/

/-- The block that holds a row. -/
abbrev ptOf (n : Fin 32768) : Fin cfg0.N := ⟨n.val / 1024, by rw [show cfg0.N = 32 from N_0]; omega⟩

theorem keys_result (a : Fin 8) (n : Fin 32768) (l : Fin 128) : (dats m 0 c).arrAt 7 cfg0.N (ix3 a n l) = (args m c).key a n l := by
  have hi := (by decide +kernel : ∀ t : Fin grid0.N, win0_7.index t 0 = 0 ∧ win0_7.index t 1 = t.val ∧ win0_7.index t 2 = 0) (ptOf n)
  have hf := (by decide +kernel : ∀ t : Fin grid0.N, (cfg0.win 7).flush t = true) (ptOf n)
  have h := congrFun (blocks7 m c (ptOf n) hf) (ix3 a ⟨n.val % 1024, by omega⟩ l : S8x1024x128.Idx)
  rw [View.read_apply, flushed7] at h
  refine (congrArg ((dats m 0 c).arrAt 7 cfg0.N) (funext fun x => Fin.ext ?_)).trans (h.trans ?_)
  · match x with
    | ⟨0, _⟩ => show a.val = win0_7.index (ptOf n) 0 * 8 + 1 * a.val; omega
    | ⟨1, _⟩ => show n.val = win0_7.index (ptOf n) 1 * 1024 + 1 * (n.val % 1024); rw [hi.2.1]; show n.val = n.val / 1024 * 1024 + 1 * (n.val % 1024); omega
    | ⟨2, _⟩ => show l.val = win0_7.index (ptOf n) 2 * 128 + 1 * l.val; omega
  · show out0_7 _ _ _ _ _ _ _ (ix3 a ⟨n.val % 1024, by omega⟩ l) = _
    rw [keys_apply _ _ _ _ _ _ _ (f := fun r j => (args m c).kv (row (ptOf n) r) j) (h := (args m c).nk) (kv_row m c _) (blk5 m c _)]
    have e : row (ptOf n) ⟨n.val % 1024, by omega⟩ = n := Fin.ext (by show 1024 * (n.val / 1024) + n.val % 1024 = n.val; omega)
    rw [e]
    rfl

theorem values_result (a : Fin 8) (n : Fin 32768) (l : Fin 128) : (dats m 0 c).arrAt 8 cfg0.N (ix3 a n l) = (args m c).value a n l := by
  have hi := (by decide +kernel : ∀ t : Fin grid0.N, win0_8.index t 0 = 0 ∧ win0_8.index t 1 = t.val ∧ win0_8.index t 2 = 0) (ptOf n)
  have hf := (by decide +kernel : ∀ t : Fin grid0.N, (cfg0.win 8).flush t = true) (ptOf n)
  have h := congrFun (blocks8 m c (ptOf n) hf) (ix3 a ⟨n.val % 1024, by omega⟩ l : S8x1024x128.Idx)
  rw [View.read_apply, flushed8] at h
  refine (congrArg ((dats m 0 c).arrAt 8 cfg0.N) (funext fun x => Fin.ext ?_)).trans (h.trans ?_)
  · match x with
    | ⟨0, _⟩ => show a.val = win0_8.index (ptOf n) 0 * 8 + 1 * a.val; omega
    | ⟨1, _⟩ => show n.val = win0_8.index (ptOf n) 1 * 1024 + 1 * (n.val % 1024); rw [hi.2.1]; show n.val = n.val / 1024 * 1024 + 1 * (n.val % 1024); omega
    | ⟨2, _⟩ => show l.val = win0_8.index (ptOf n) 2 * 128 + 1 * l.val; omega
  · show out0_8 _ _ _ _ _ _ _ (ix3 a ⟨n.val % 1024, by omega⟩ l) = _
    unfold out0_8 k0_pay175
    rw [canon8_eq, View.ld_unit_zero (S := S1024x1024) hz2, View.ld_unit_zero (S := S1x1024) hz2, View.ld_unit_zero (S := S1024x2048) hz2]
    show k0_pay4 (iblk m c 0 (ptOf n)) (iblk m c 1 (ptOf n)) (iblk m c 3 (ptOf n)) (ix8_0 (ix3 a ⟨n.val % 1024, by omega⟩ l)) = _
    have e0 : (ix8_0 (ix3 a ⟨n.val % 1024, by omega⟩ l) : S1024x2048.Idx) = ix2 ⟨n.val % 1024, by omega⟩ ⟨a.val * 128 + l.val + 1024, by omega⟩ :=
      funext fun x => match x with | ⟨0, _⟩ => rfl | ⟨1, _⟩ => rfl
    rw [e0, kv_row]
    have e : row (ptOf n) ⟨n.val % 1024, by omega⟩ = n := Fin.ext (by show 1024 * (n.val / 1024) + n.val % 1024 = n.val; omega)
    have e2 : (⟨a.val * 128 + l.val + 1024, by omega⟩ : Fin 2048) = ⟨1024 + 128 * a.val + l.val, by omega⟩ :=
      Fin.ext (by show a.val * 128 + l.val + 1024 = 1024 + 128 * a.val + l.val; omega)
    rw [e, e2]
    rfl

theorem queries_result (a : Fin 8) (t : Fin 128) (r : Fin 512) (l : Fin 128) : (dats m 0 c).arrAt 9 cfg0.N (ix4 a t r l) = (args m c).tile a t r l := by
  have hN : cfg0.N = 32 := N_0
  obtain ⟨p, hp⟩ : ∃ p : Fin cfg0.N, p.val = t.val / 4 := ⟨⟨t.val / 4, by omega⟩, rfl⟩
  have hi := (by decide +kernel : ∀ t : Fin grid0.N, win0_9.index t 0 = 0 ∧ win0_9.index t 1 = t.val ∧ win0_9.index t 2 = 0 ∧ win0_9.index t 3 = 0) p
  have hf := (by decide +kernel : ∀ t : Fin grid0.N, (cfg0.win 9).flush t = true) p
  have h := congrFun (blocks9 m c p hf) (ix4 a ⟨t.val % 4, by omega⟩ r l : S8x4x512x128.Idx)
  rw [View.read_apply, flushed9] at h
  refine (congrArg ((dats m 0 c).arrAt 9 cfg0.N) (funext fun x => Fin.ext ?_)).trans (h.trans ?_)
  · match x with
    | ⟨0, _⟩ => show a.val = win0_9.index p 0 * 8 + 1 * a.val; omega
    | ⟨1, _⟩ => show t.val = win0_9.index p 1 * 4 + 1 * (t.val % 4); omega
    | ⟨2, _⟩ => show r.val = win0_9.index p 2 * 512 + 1 * r.val; omega
    | ⟨3, _⟩ => show l.val = win0_9.index p 3 * 128 + 1 * l.val; omega
  · show out0_9 _ _ _ _ _ _ _ (ix4 a ⟨t.val % 4, by omega⟩ r l) = _
    rw [queries_apply _ _ _ _ _ _ _ (f := fun r j => (args m c).qq (row p r) j) (h := (args m c).nq) (q_row m c p) (blk6 m c p)]
    have e : row p ⟨256 * (t.val % 4) + r.val % 256, by omega⟩ = ⟨256 * t.val + r.val % 256, by omega⟩ :=
      Fin.ext (by show 1024 * p.val + (256 * (t.val % 4) + r.val % 256) = 256 * t.val + r.val % 256; omega)
    rw [e]
    rfl

end Cert.Proof.Qkv

end
-- ==== Proof.Qkv.Ref.lean ====
/-
  What the reference's keys, values and queries are, position by position: `Qkv.Data`'s of its arguments.
-/
module

public import proofs.«01_k».proof.Proof.Qkv.Model
public import proofs.«01_k».proof.Proof.Gen.QkvRefIdeal.Read
public import Idealize.ShloMosaic.Lib.Pointwise

@[expose] public section

set_option maxRecDepth 16384

noncomputable section

namespace Cert.Proof.Qkv

open Idealize.ShloMosaic
open Cert.QkvRefIdeal Cert.QkvRefIdeal.Gen Cert.QkvRefIdeal.Read

section

variable (x0 : (⟨S32768x1024, .f32⟩ : BufTy).Contents (Elt Ideal)) (x1 : (⟨S1024, .f32⟩ : BufTy).Contents (Elt Ideal))
  (x2 : (⟨S1x1024, .f32⟩ : BufTy).Contents (Elt Ideal)) (x3 : (⟨S1024x2048, .f32⟩ : BufTy).Contents (Elt Ideal))
  (x4 : (⟨S1x1024x1024, .f32⟩ : BufTy).Contents (Elt Ideal)) (x5 : (⟨S64, .f32⟩ : BufTy).Contents (Elt Ideal))
  (x6 : (⟨S1x64, .f32⟩ : BufTy).Contents (Elt Ideal))

/-- The operands, out of the reference's arguments. -/
def refArgs : Data where
  h n d := x0 (ix2 n d)
  gk d := x1 (ix1 d)
  gq d := x2 (ix2 0 d)
  wkv d j := x3 (ix2 d j)
  wq d j := x4 (ix3 0 d j)
  nk e := x5 (ix1 e)
  nq e := x6 (ix2 0 e)

/-- Step `s` of sequence `b`, among all rows. -/
abbrev step (b : Fin 16) (s : Fin 2048) : Fin 32768 := ⟨b.val * 2048 + s.val, by omega⟩

/-- Lane `e` of component `c`. -/
abbrev lane (c : Fin 2) (e : Fin 64) : Fin 128 := ⟨64 * c.val + e.val, by omega⟩

theorem half_lane (c : Fin 2) (e i : Fin 64) : half (lane c e) i = lane c i :=
  Fin.ext (by show 64 * ((64 * c.val + e.val) / 64) + i.val = 64 * c.val + i.val; omega)

theorem inHalf_lane (c : Fin 2) (e : Fin 64) : inHalf (lane c e) = e :=
  Fin.ext (by show (64 * c.val + e.val) % 64 = e.val; omega)

theorem ref_h (b : Fin 16) (s : Fin 2048) (d : Fin 1024) : val_main_v0 (F := Ideal) x0 (ix3 b s d) = (refArgs x0 x1 x2 x3 x4 x5 x6).h (step b s) d := by
  rw [val_main_v0_apply]
  refine congrArg x0 (funext fun u => Fin.ext ?_ : _ = ix2 (step b s) d)
  match u with
  | ⟨0, _⟩ => show ((b.val * 2048 + s.val) * 1024 + d.val) / 1024 = b.val * 2048 + s.val; omega
  | ⟨1, _⟩ => show ((b.val * 2048 + s.val) * 1024 + d.val) % 1024 = d.val; omega

theorem ref_nx (b : Fin 16) (s : Fin 2048) (d : Fin 1024) : val_main_v10 (F := Ideal) x0 (ix3 b s d) = (refArgs x0 x1 x2 x3 x4 x5 x6).nx (step b s) d := by
  pointwise [val_main_v10, val_main_v9, val_main_v8, val_main_v7, val_main_v6, val_main_v5, val_main_v4, val_main_v3, val_main_v2, val_main_v1,
    val_main_cst, val_main_cst_0, val_main_cst_1]
  simp only [ref_h x0 x1 x2 x3 x4 x5 x6]
  rfl

theorem ref_nx' (b : Fin 16) (s : Fin 2048) (d : Fin 1024) : val_main_v42 (F := Ideal) x0 (ix3 b s d) = (refArgs x0 x1 x2 x3 x4 x5 x6).nx (step b s) d := by
  pointwise [val_main_v42, val_main_v41, val_main_v40, val_main_v39, val_main_v38, val_main_v37, val_main_v36, val_main_v35, val_main_v34, val_main_v33,
    val_main_cst_5, val_main_cst_6, val_main_cst_7]
  simp only [ref_h x0 x1 x2 x3 x4 x5 x6]
  rfl

theorem ref_kv (b : Fin 16) (s : Fin 2048) (j : Fin 2048) : val_main_v14 (F := Ideal) x0 x1 x3 (ix3 b s j) = (refArgs x0 x1 x2 x3 x4 x5 x6).kv (step b s) j := by
  pointwise [val_main_v14, val_main_v13, val_main_v12, val_main_v11]
  simp only [ref_nx x0 x1 x2 x3 x4 x5 x6]
  rfl

theorem ref_qq (b : Fin 16) (s : Fin 2048) (j : Fin 1024) : val_main_v47 (F := Ideal) x0 x2 x4 (ix3 b s j) = (refArgs x0 x1 x2 x3 x4 x5 x6).qq (step b s) j := by
  pointwise [val_main_v47, val_main_v46, val_main_v45, val_main_v44, val_main_v43, val_main_v32]
  simp only [ref_nx' x0 x1 x2 x3 x4 x5 x6]
  rfl

/-- The keys' columns, by head, component and lane. -/
theorem ref_k (b : Fin 16) (s : Fin 2048) (a : Fin 8) (c : Fin 2) (e : Fin 64) :
    val_main_v16 (F := Ideal) x0 x1 x3 (ix5 b s a c e) = (refArgs x0 x1 x2 x3 x4 x5 x6).kv (step b s) ⟨128 * a.val + (lane c e).val, by omega⟩ := by
  rw [val_main_v16_apply, val_main_v15_apply]
  refine (congrArg (val_main_v14 (F := Ideal) x0 x1 x3) (funext fun u => Fin.ext ?_ :
    _ = ix3 b s ⟨128 * a.val + (lane c e).val, by omega⟩)).trans (ref_kv x0 x1 x2 x3 x4 x5 x6 b s _)
  match u with
  | ⟨0, _⟩ => show ((((b.val * 2048 + s.val) * 8 + a.val) * 2 + c.val) * 64 + e.val) / 2097152 = b.val; omega
  | ⟨1, _⟩ => show ((((b.val * 2048 + s.val) * 8 + a.val) * 2 + c.val) * 64 + e.val) / 1024 % 2048 = s.val; omega
  | ⟨2, _⟩ => show ((((b.val * 2048 + s.val) * 8 + a.val) * 2 + c.val) * 64 + e.val) % 1024 = 128 * a.val + (64 * c.val + e.val); omega

/-- The queries' columns, by head, component and lane. -/
theorem ref_q (b : Fin 16) (s : Fin 2048) (a : Fin 8) (c : Fin 2) (e : Fin 64) :
    val_main_v48 (F := Ideal) x0 x2 x4 (ix5 b s a c e) = (refArgs x0 x1 x2 x3 x4 x5 x6).qq (step b s) ⟨128 * a.val + (lane c e).val, by omega⟩ := by
  rw [val_main_v48_apply]
  refine (congrArg (val_main_v47 (F := Ideal) x0 x2 x4) (funext fun u => Fin.ext ?_ :
    _ = ix3 b s ⟨128 * a.val + (lane c e).val, by omega⟩)).trans (ref_qq x0 x1 x2 x3 x4 x5 x6 b s _)
  match u with
  | ⟨0, _⟩ => show ((((b.val * 2048 + s.val) * 8 + a.val) * 2 + c.val) * 64 + e.val) / 2097152 = b.val; omega
  | ⟨1, _⟩ => show ((((b.val * 2048 + s.val) * 8 + a.val) * 2 + c.val) * 64 + e.val) / 1024 % 2048 = s.val; omega
  | ⟨2, _⟩ => show ((((b.val * 2048 + s.val) * 8 + a.val) * 2 + c.val) * 64 + e.val) % 1024 = 128 * a.val + (64 * c.val + e.val); omega

/-- The values' columns, by head and lane. -/
theorem ref_v (b : Fin 16) (s : Fin 2048) (a : Fin 8) (l : Fin 128) :
    val_main_v31 (F := Ideal) x0 x1 x3 (ix4 b s a l) = (refArgs x0 x1 x2 x3 x4 x5 x6).value a (step b s) l := by
  rw [val_main_v31_apply, val_main_v30_apply]
  refine (congrArg (val_main_v14 (F := Ideal) x0 x1 x3) (funext fun u => Fin.ext ?_ :
    _ = ix3 b s ⟨1024 + 128 * a.val + l.val, by omega⟩)).trans (ref_kv x0 x1 x2 x3 x4 x5 x6 b s _)
  match u with
  | ⟨0, _⟩ => show (((b.val * 2048 + s.val) * 8 + a.val) * 128 + l.val) / 2097152 = b.val; omega
  | ⟨1, _⟩ => show (((b.val * 2048 + s.val) * 8 + a.val) * 128 + l.val) / 1024 % 2048 = s.val; omega
  | ⟨2, _⟩ => show 1024 + (((b.val * 2048 + s.val) * 8 + a.val) * 128 + l.val) % 1024 = 1024 + 128 * a.val + l.val; omega

theorem ref_key (b : Fin 16) (s : Fin 2048) (a : Fin 8) (c : Fin 2) (e : Fin 64) :
    val_main_v29 (F := Ideal) x0 x1 x3 x5 (ix5 b s a c e) = (refArgs x0 x1 x2 x3 x4 x5 x6).key a (step b s) (lane c e) := by
  unfold Data.key norm64
  simp only [half_lane, inHalf_lane]
  pointwise [val_main_v29, val_main_v28, val_main_v27, val_main_v26, val_main_v25, val_main_v24, val_main_v23, val_main_v22, val_main_v21, val_main_v20,
    val_main_v19, val_main_v18, val_main_v17, val_main_cst_2, val_main_cst_3, val_main_cst_4]
  simp only [ref_k x0 x1 x2 x3 x4 x5 x6, show (64 * c.val + e.val) / 64 = c.val by omega]
  rfl

theorem ref_query (b : Fin 16) (s : Fin 2048) (a : Fin 8) (c : Fin 2) (e : Fin 64) :
    val_main_v67 (F := Ideal) x0 x2 x4 x6 (ix5 b s a c e) = (refArgs x0 x1 x2 x3 x4 x5 x6).query a (step b s) (lane c e) := by
  unfold Data.query norm64
  simp only [half_lane, inHalf_lane]
  rw [← scale_eq]
  pointwise [val_main_v67, val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49, val_main_cst_8,
    val_main_cst_9, val_main_cst_10, val_main_cst_11, val_main_cst_12]
  simp only [ref_q x0 x1 x2 x3 x4 x5 x6, show (64 * c.val + e.val) / 64 = c.val by omega]
  rfl

/-! ## The results' layouts -/

/-- The queries by tiles of 256 steps. -/
theorem ref_query_tile (t : Fin 128) (s : Fin 256) (a : Fin 8) (c : Fin 2) (e : Fin 64) :
    val_main_v68 (F := Ideal) x0 x2 x4 x6 (ix5 t s a c e) = (refArgs x0 x1 x2 x3 x4 x5 x6).query a ⟨256 * t.val + s.val, by omega⟩ (lane c e) := by
  rw [val_main_v68_apply]
  refine (congrArg (val_main_v67 (F := Ideal) x0 x2 x4 x6) (funext fun u => Fin.ext ?_ :
    _ = ix5 ⟨(256 * t.val + s.val) / 2048, by omega⟩ ⟨(256 * t.val + s.val) % 2048, by omega⟩ a c e)).trans
    ((ref_query x0 x1 x2 x3 x4 x5 x6 _ _ a c e).trans (congrArg (fun n => Data.query _ a n (lane c e)) (Fin.ext ?_)))
  · match u with
    | ⟨0, _⟩ => show ((((t.val * 256 + s.val) * 8 + a.val) * 2 + c.val) * 64 + e.val) / 2097152 = (256 * t.val + s.val) / 2048; omega
    | ⟨1, _⟩ => show ((((t.val * 256 + s.val) * 8 + a.val) * 2 + c.val) * 64 + e.val) / 1024 % 2048 = (256 * t.val + s.val) % 2048; omega
    | ⟨2, _⟩ => show ((((t.val * 256 + s.val) * 8 + a.val) * 2 + c.val) * 64 + e.val) / 128 % 8 = a.val; omega
    | ⟨3, _⟩ => show ((((t.val * 256 + s.val) * 8 + a.val) * 2 + c.val) * 64 + e.val) / 64 % 2 = c.val; omega
    | ⟨4, _⟩ => show ((((t.val * 256 + s.val) * 8 + a.val) * 2 + c.val) * 64 + e.val) % 64 = e.val; omega
  · show (256 * t.val + s.val) / 2048 * 2048 + (256 * t.val + s.val) % 2048 = 256 * t.val + s.val
    omega

/-- One component of the queries of a tile. -/
theorem ref_comp0 (t : Fin 128) (s : Fin 256) (a : Fin 8) (e : Fin 64) :
    val_main_v71 (F := Ideal) x0 x2 x4 x6 (ix4 t s a e) = (refArgs x0 x1 x2 x3 x4 x5 x6).query a ⟨256 * t.val + s.val, by omega⟩ (lane 0 e) := by
  rw [val_main_v71_apply, val_main_v70_apply]
  refine (congrArg (val_main_v68 (F := Ideal) x0 x2 x4 x6) (funext fun u => Fin.ext ?_ : _ = ix5 t s a 0 e)).trans
    (ref_query_tile x0 x1 x2 x3 x4 x5 x6 t s a 0 e)
  match u with
  | ⟨0, _⟩ => show (((t.val * 256 + s.val) * 8 + a.val) * 64 + e.val) / 131072 = t.val; omega
  | ⟨1, _⟩ => show (((t.val * 256 + s.val) * 8 + a.val) * 64 + e.val) / 512 % 256 = s.val; omega
  | ⟨2, _⟩ => show (((t.val * 256 + s.val) * 8 + a.val) * 64 + e.val) / 64 % 8 = a.val; omega
  | ⟨3, _⟩ => rfl
  | ⟨4, _⟩ => show (((t.val * 256 + s.val) * 8 + a.val) * 64 + e.val) % 64 = e.val; omega

theorem ref_comp1 (t : Fin 128) (s : Fin 256) (a : Fin 8) (e : Fin 64) :
    val_main_v74 (F := Ideal) x0 x2 x4 x6 (ix4 t s a e) = (refArgs x0 x1 x2 x3 x4 x5 x6).query a ⟨256 * t.val + s.val, by omega⟩ (lane 1 e) := by
  rw [val_main_v74_apply, val_main_v73_apply]
  refine (congrArg (val_main_v68 (F := Ideal) x0 x2 x4 x6) (funext fun u => Fin.ext ?_ : _ = ix5 t s a 1 e)).trans
    (ref_query_tile x0 x1 x2 x3 x4 x5 x6 t s a 1 e)
  match u with
  | ⟨0, _⟩ => show (((t.val * 256 + s.val) * 8 + a.val) * 64 + e.val) / 131072 = t.val; omega
  | ⟨1, _⟩ => show (((t.val * 256 + s.val) * 8 + a.val) * 64 + e.val) / 512 % 256 = s.val; omega
  | ⟨2, _⟩ => show (((t.val * 256 + s.val) * 8 + a.val) * 64 + e.val) / 64 % 8 = a.val; omega
  | ⟨3, _⟩ => rfl
  | ⟨4, _⟩ => show (((t.val * 256 + s.val) * 8 + a.val) * 64 + e.val) % 64 = e.val; omega

theorem ref_zero (i : S128x256x8x64.Idx) : val_main_v69 (F := Ideal) i = 0 := by
  pointwise [val_main_v69, val_main_cst_13]

/-- The rows of the first component, with zeros in the second's lanes. -/
theorem ref_pad0 (t : Fin 128) (s : Fin 256) (a : Fin 8) (l : Fin 128) :
    val_main_v72 (F := Ideal) x0 x2 x4 x6 (ix4 t s a l)
      = if l.val < 64 then (refArgs x0 x1 x2 x3 x4 x5 x6).query a ⟨256 * t.val + s.val, by omega⟩ l else 0 := by
  unfold val_main_v72
  by_cases hl : l.val < 64
  · rw [if_pos hl]
    refine (concatenate_pair_apply_left (t := S128x256x8x128) (s₁ := S128x256x8x64) (s₂ := S128x256x8x64) 3 _ _ _ (ix4 t s a l) rfl (ix4 t s a ⟨l.val, hl⟩ : S128x256x8x64.Idx) (fun b => match b with
      | ⟨0, _⟩ => rfl | ⟨1, _⟩ => rfl | ⟨2, _⟩ => rfl | ⟨3, _⟩ => rfl)).trans ?_
    refine (ref_comp0 x0 x1 x2 x3 x4 x5 x6 t s a _).trans (congrArg (Data.query _ a _) (Fin.ext ?_))
    show 64 * 0 + l.val = l.val
    omega
  · rw [if_neg hl]
    refine (concatenate_pair_apply_right (t := S128x256x8x128) (s₁ := S128x256x8x64) (s₂ := S128x256x8x64) 3 _ _ _ (ix4 t s a l) rfl rfl (ix4 t s a ⟨l.val - 64, by omega⟩ : S128x256x8x64.Idx) (fun b => match b with
      | ⟨0, _⟩ => fun _ => rfl | ⟨1, _⟩ => fun _ => rfl | ⟨2, _⟩ => fun _ => rfl | ⟨3, _⟩ => fun h => absurd rfl h) ?_).trans (ref_zero _)
    show l.val - 64 + 64 = l.val
    omega

/-- The rows of the second component, with zeros in the first's lanes. -/
theorem ref_pad1 (t : Fin 128) (s : Fin 256) (a : Fin 8) (l : Fin 128) :
    val_main_v75 (F := Ideal) x0 x2 x4 x6 (ix4 t s a l)
      = if l.val < 64 then 0 else (refArgs x0 x1 x2 x3 x4 x5 x6).query a ⟨256 * t.val + s.val, by omega⟩ l := by
  unfold val_main_v75
  by_cases hl : l.val < 64
  · rw [if_pos hl]
    exact (concatenate_pair_apply_left (t := S128x256x8x128) (s₁ := S128x256x8x64) (s₂ := S128x256x8x64) 3 _ _ _ (ix4 t s a l) rfl (ix4 t s a ⟨l.val, hl⟩ : S128x256x8x64.Idx) (fun b => match b with
      | ⟨0, _⟩ => rfl | ⟨1, _⟩ => rfl | ⟨2, _⟩ => rfl | ⟨3, _⟩ => rfl)).trans (ref_zero _)
  · rw [if_neg hl]
    refine (concatenate_pair_apply_right (t := S128x256x8x128) (s₁ := S128x256x8x64) (s₂ := S128x256x8x64) 3 _ _ _ (ix4 t s a l) rfl rfl (ix4 t s a ⟨l.val - 64, by omega⟩ : S128x256x8x64.Idx) (fun b => match b with
      | ⟨0, _⟩ => fun _ => rfl | ⟨1, _⟩ => fun _ => rfl | ⟨2, _⟩ => fun _ => rfl | ⟨3, _⟩ => fun h => absurd rfl h) ?_).trans ?_
    · show l.val - 64 + 64 = l.val
      omega
    · refine (ref_comp1 x0 x1 x2 x3 x4 x5 x6 t s a _).trans (congrArg (Data.query _ a _) (Fin.ext ?_))
      show 64 * 1 + (l.val - 64) = l.val
      omega

theorem ref_tile (t : Fin 128) (r : Fin 512) (a : Fin 8) (l : Fin 128) :
    val_main_v76 (F := Ideal) x0 x2 x4 x6 (ix4 t r a l) = (refArgs x0 x1 x2 x3 x4 x5 x6).tile a t r l := by
  unfold val_main_v76 Data.tile
  by_cases hr : r.val < 256
  · refine (concatenate_pair_apply_left (t := S128x512x8x128) (s₁ := S128x256x8x128) (s₂ := S128x256x8x128) 1 _ _ _ (ix4 t r a l) rfl (ix4 t ⟨r.val, hr⟩ a l : S128x256x8x128.Idx) (fun b => match b with
      | ⟨0, _⟩ => rfl | ⟨1, _⟩ => rfl | ⟨2, _⟩ => rfl | ⟨3, _⟩ => rfl)).trans ((ref_pad0 x0 x1 x2 x3 x4 x5 x6 t _ a l).trans ?_)
    have e : r.val % 256 = r.val := Nat.mod_eq_of_lt hr
    simp only [hr, e, true_iff]
  · refine (concatenate_pair_apply_right (t := S128x512x8x128) (s₁ := S128x256x8x128) (s₂ := S128x256x8x128) 1 _ _ _ (ix4 t r a l) rfl rfl (ix4 t ⟨r.val - 256, by omega⟩ a l : S128x256x8x128.Idx) (fun b => match b with
      | ⟨0, _⟩ => fun _ => rfl | ⟨1, _⟩ => fun h => absurd rfl h | ⟨2, _⟩ => fun _ => rfl | ⟨3, _⟩ => fun _ => rfl) ?_).trans
      ((ref_pad1 x0 x1 x2 x3 x4 x5 x6 t _ a l).trans ?_)
    · show r.val - 256 + 256 = r.val
      omega
    · have e : r.val % 256 = r.val - 256 := by omega
      simp only [hr, e, false_iff, ite_not]

theorem ref_keys (a : Fin 8) (n : Fin 32768) (l : Fin 128) :
    val_main_v79 (F := Ideal) x0 x1 x3 x5 (ix3 a n l) = (refArgs x0 x1 x2 x3 x4 x5 x6).key a n l := by
  show val_main_v78 (F := Ideal) x0 x1 x3 x5 (ix3 a n l) = _
  rw [val_main_v78_apply, val_main_v77_apply]
  refine (congrArg (val_main_v29 (F := Ideal) x0 x1 x3 x5) (funext fun u => Fin.ext ?_ :
    _ = ix5 ⟨n.val / 2048, by omega⟩ ⟨n.val % 2048, by omega⟩ a ⟨l.val / 64, by omega⟩ ⟨l.val % 64, by omega⟩)).trans
    ((ref_key x0 x1 x2 x3 x4 x5 x6 _ _ a _ _).trans (congrArg₂ (Data.key _ a) (Fin.ext ?_) (Fin.ext ?_)))
  · match u with
    | ⟨0, _⟩ => show ((n.val * 8 + a.val) * 128 + l.val) / 2097152 = n.val / 2048; omega
    | ⟨1, _⟩ => show ((n.val * 8 + a.val) * 128 + l.val) / 1024 % 2048 = n.val % 2048; omega
    | ⟨2, _⟩ => show ((n.val * 8 + a.val) * 128 + l.val) / 128 % 8 = a.val; omega
    | ⟨3, _⟩ => show ((n.val * 8 + a.val) * 128 + l.val) / 64 % 2 = l.val / 64; omega
    | ⟨4, _⟩ => show ((n.val * 8 + a.val) * 128 + l.val) % 64 = l.val % 64; omega
  · show n.val / 2048 * 2048 + n.val % 2048 = n.val
    omega
  · show 64 * (l.val / 64) + l.val % 64 = l.val
    omega

theorem ref_values (a : Fin 8) (n : Fin 32768) (l : Fin 128) :
    val_main_v82 (F := Ideal) x0 x1 x3 (ix3 a n l) = (refArgs x0 x1 x2 x3 x4 x5 x6).value a n l := by
  show val_main_v81 (F := Ideal) x0 x1 x3 (ix3 a n l) = _
  rw [val_main_v81_apply, val_main_v80_apply]
  refine (congrArg (val_main_v31 (F := Ideal) x0 x1 x3) (funext fun u => Fin.ext ?_ :
    _ = ix4 ⟨n.val / 2048, by omega⟩ ⟨n.val % 2048, by omega⟩ a l)).trans
    ((ref_v x0 x1 x2 x3 x4 x5 x6 _ _ a l).trans (congrArg (fun k => Data.value _ a k l) (Fin.ext ?_)))
  · match u with
    | ⟨0, _⟩ => show ((n.val * 8 + a.val) * 128 + l.val) / 2097152 = n.val / 2048; omega
    | ⟨1, _⟩ => show ((n.val * 8 + a.val) * 128 + l.val) / 1024 % 2048 = n.val % 2048; omega
    | ⟨2, _⟩ => show ((n.val * 8 + a.val) * 128 + l.val) / 128 % 8 = a.val; omega
    | ⟨3, _⟩ => show ((n.val * 8 + a.val) * 128 + l.val) % 128 = l.val; omega
  · show n.val / 2048 * 2048 + n.val % 2048 = n.val
    omega

theorem ref_queries (a : Fin 8) (t : Fin 128) (r : Fin 512) (l : Fin 128) :
    val_main_v84 (F := Ideal) x0 x2 x4 x6 (ix4 a t r l) = (refArgs x0 x1 x2 x3 x4 x5 x6).tile a t r l := by
  show val_main_v83 (F := Ideal) x0 x2 x4 x6 (ix4 a t r l) = _
  rw [val_main_v83_apply]
  refine (congrArg (val_main_v76 (F := Ideal) x0 x2 x4 x6) (funext fun u => ?_ : _ = ix4 t r a l)).trans (ref_tile x0 x1 x2 x3 x4 x5 x6 t r a l)
  match u with
  | ⟨0, _⟩ => rfl
  | ⟨1, _⟩ => rfl
  | ⟨2, _⟩ => rfl
  | ⟨3, _⟩ => rfl

end

end Cert.Proof.Qkv

end
-- ==== Proof.Qkv.Claim.lean ====
/-
  The value claim of the call that makes keys, values and queries: its three result arrays are the reference's.
-/
module

public import proofs.«01_k».proof.Proof.Qkv.Kernel
public import proofs.«01_k».proof.Proof.Qkv.Ref
public import proofs.«01_k».proof.Defs

@[expose] public section

set_option maxRecDepth 16384

noncomputable section

namespace Cert.Proof.Qkv

open Idealize.ShloMosaic Idealize.ShloMosaic.TcCoe Idealize.SL.Sem

theorem algebraic : algebraic_QkvIdeal_QkvRefIdeal := by
  intro m g m' g' _ hm
  refine ⟨fun c => (Cert.QkvIdeal.Gen.dats m 0 c).arrAt 7 Cert.QkvIdeal.cfg0.N, fun c => (Cert.QkvIdeal.Gen.dats m 0 c).arrAt 8 Cert.QkvIdeal.cfg0.N,
    fun c => (Cert.QkvIdeal.Gen.dats m 0 c).arrAt 9 Cert.QkvIdeal.cfg0.N, Cert.QkvIdeal.Value.run_blocks m g, ?_⟩
  refine (θ_run _ _ _).mono (fun r h c => ⟨(h c).1.trans ?_, (h c).2.1.trans ?_, (h c).2.2.1.trans ?_, (h c).2.2.2⟩) (Cert.QkvRefIdeal.Value.run m' g')
  · obtain ⟨e0, e1, e2, e3, e4, e5, e6⟩ := hm c
    rw [Cert.QkvRefIdeal.Read.val_main_v79_eq]
    funext i
    idx_vars i
    refine (ref_keys _ _ (m' ((c.tc : Thread _ _).loc Cert.QkvRefIdeal.main_arg2)) _ (m' ((c.tc : Thread _ _).loc Cert.QkvRefIdeal.main_arg4)) _
      (m' ((c.tc : Thread _ _).loc Cert.QkvRefIdeal.main_arg6)) _ _ _).trans (Eq.trans ?_ (keys_result m c _ _ _).symm)
    rw [e0, e1, e2, e3, e4, e5, e6]
    rfl
  · obtain ⟨e0, e1, e2, e3, e4, e5, e6⟩ := hm c
    rw [Cert.QkvRefIdeal.Read.val_main_v82_eq]
    funext i
    idx_vars i
    refine (ref_values _ _ (m' ((c.tc : Thread _ _).loc Cert.QkvRefIdeal.main_arg2)) _ (m' ((c.tc : Thread _ _).loc Cert.QkvRefIdeal.main_arg4))
      (m' ((c.tc : Thread _ _).loc Cert.QkvRefIdeal.main_arg5)) (m' ((c.tc : Thread _ _).loc Cert.QkvRefIdeal.main_arg6)) _ _ _).trans
      (Eq.trans ?_ (values_result m c _ _ _).symm)
    rw [e0, e1, e2, e3, e4, e5, e6]
    rfl
  · obtain ⟨e0, e1, e2, e3, e4, e5, e6⟩ := hm c
    rw [Cert.QkvRefIdeal.Read.val_main_v84_eq]
    funext i
    idx_vars i
    refine (ref_queries _ (m' ((c.tc : Thread _ _).loc Cert.QkvRefIdeal.main_arg1)) _ (m' ((c.tc : Thread _ _).loc Cert.QkvRefIdeal.main_arg3)) _
      (m' ((c.tc : Thread _ _).loc Cert.QkvRefIdeal.main_arg5)) _ _ _ _ _).trans (Eq.trans ?_ (queries_result m c _ _ _ _).symm)
    rw [e0, e1, e2, e3, e4, e5, e6]
    rfl

end Cert.Proof.Qkv

end
-- ==== Proof.lean ====
/-
  The certificate: the frames of the programs, the idealization, and the value claim.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.Pre_finite2
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnA
public import proofs.«01_k».proof.Proof.Gen.FfnA.Frame
public import proofs.«01_k».proof.Proof.Gen.FfnAIdeal
public import proofs.«01_k».proof.Proof.Gen.FfnAIdeal.Frame
public import proofs.«01_k».proof.Proof.Gen.FfnARefIdeal
public import proofs.«01_k».proof.Proof.Gen.Pre_finite3
public import proofs.«01_k».proof.Proof.Gen.FfnAIdeal.Value
public import proofs.«01_k».proof.Proof.Gen.FfnARefIdeal.Run
public import proofs.«01_k».proof.Proof.Gen.FfnARefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.Pre_finite4
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Ffn.Claim
public import proofs.«01_k».proof.Proof.FfnA.Claim
public import proofs.«01_k».proof.Proof.InProj.Claim
public import proofs.«01_k».proof.Proof.Qkv.Claim

@[expose] public section

noncomputable section

namespace Cert.Proof

open Idealize.ShloMosaic Idealize.SL.Sem

/-- A reference ends with its arguments unchanged and every counter at zero: it has no counters. -/
theorem ffnRef_frame [Cert.FfnRefIdeal.Facts] : Cert.quiescent_FfnRefIdeal := fun m g _ =>
  (θ_run _ _ _).mono (fun r h => ⟨fun c => (h c).2, funext fun s => nomatch s.2⟩) (Cert.FfnRefIdeal.Value.run m g)
theorem ffnARef_frame [Cert.FfnARefIdeal.Facts] : Cert.quiescent_FfnARefIdeal := fun m g _ =>
  (θ_run _ _ _).mono (fun r h => ⟨fun c => (h c).2, funext fun s => nomatch s.2⟩) (Cert.FfnARefIdeal.Value.run m g)
theorem inProjRef_frame [Cert.InProjRefIdeal.Facts] : Cert.quiescent_InProjRefIdeal := fun m g _ =>
  (θ_run _ _ _).mono (fun r h => ⟨fun c => (h c).2.2.2.2.2, funext fun s => nomatch s.2⟩) (Cert.InProjRefIdeal.Value.run m g)
theorem qkvRef_frame [Cert.QkvRefIdeal.Facts] : Cert.quiescent_QkvRefIdeal := fun m g _ =>
  (θ_run _ _ _).mono (fun r h => ⟨fun c => (h c).2.2.2, funext fun s => nomatch s.2⟩) (Cert.QkvRefIdeal.Value.run m g)

theorem claim : Cert.Claim := ⟨Cert.Ffn.Gen.facts, Cert.FfnIdeal.Gen.facts, Cert.FfnRefIdeal.Gen.facts,
  Cert.FfnA.Gen.facts, Cert.FfnAIdeal.Gen.facts, Cert.FfnARefIdeal.Gen.facts,
  Cert.InProj.Gen.facts, Cert.InProjIdeal.Gen.facts, Cert.InProjRefIdeal.Gen.facts,
  Cert.Qkv.Gen.facts, Cert.QkvIdeal.Gen.facts, Cert.QkvRefIdeal.Gen.facts,
  Cert.Pre_finite2.Gen.facts, Cert.Pre_finite3.Gen.facts, Cert.Pre_finite4.Gen.facts,
  fun m ρ _ => Cert.Ffn.Gen.frame m ρ, fun m ρ _ => Cert.FfnIdeal.Gen.frame m ρ, fun m ρ _ => Cert.FfnIdeal.Gen.frame m ρ,
  ffnRef_frame, fun m g _ => ffnRef_frame m g trivial,
  fun m ρ _ => Cert.FfnA.Gen.frame m ρ, fun m ρ _ => Cert.FfnAIdeal.Gen.frame m ρ, fun m ρ _ => Cert.FfnAIdeal.Gen.frame m ρ,
  ffnARef_frame, fun m g _ => ffnARef_frame m g trivial,
  fun m ρ _ => Cert.InProj.Gen.frame m ρ, fun m ρ _ => Cert.InProjIdeal.Gen.frame m ρ, fun m ρ _ => Cert.InProjIdeal.Gen.frame m ρ,
  inProjRef_frame, fun m g _ => inProjRef_frame m g trivial,
  fun m ρ _ => Cert.Qkv.Gen.frame m ρ, fun m ρ _ => Cert.QkvIdeal.Gen.frame m ρ, qkvRef_frame,
  trivial, Cert.Proof.Ffn.algebraic, trivial, Cert.Proof.FfnA.algebraic, trivial, Cert.Proof.InProj.algebraic,
  IdealRules.named_const.statement Cert.QkvIdeal.κ "scale" .f32 0x3E38AA3B#32 _ rfl, Cert.Proof.Qkv.algebraic⟩

end Cert.Proof

end
